-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S1024x128
  ∧ IdealRules.bf16_pair.Statement Cert.KernelIdeal.S1024x2x128 Cert.KernelIdeal.S1024x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x8192 : Shape := ⟨3, ![4, 4096, 8192]⟩
abbrev S8192 : Shape := ⟨1, ![8192]⟩
abbrev S8192x12288 : Shape := ⟨2, ![8192, 12288]⟩
abbrev S12288 : Shape := ⟨1, ![12288]⟩
abbrev S4x4096 : Shape := ⟨2, ![4, 4096]⟩
abbrev S16384x8192 : Shape := ⟨2, ![16384, 8192]⟩
abbrev S1x8192 : Shape := ⟨2, ![1, 8192]⟩
abbrev S16384x1 : Shape := ⟨2, ![16384, 1]⟩
abbrev S16384x128 : Shape := ⟨2, ![16384, 128]⟩
abbrev S256x8192 : Shape := ⟨2, ![256, 8192]⟩
abbrev S256x1 : Shape := ⟨2, ![256, 1]⟩
abbrev S256x128 : Shape := ⟨2, ![256, 128]⟩
abbrev S256 : Shape := ⟨1, ![256]⟩
abbrev S1x254 : Shape := ⟨2, ![1, 254]⟩
abbrev S256x254 : Shape := ⟨2, ![256, 254]⟩
abbrev S1x128 : Shape := ⟨2, ![1, 128]⟩
abbrev S1x12288 : Shape := ⟨2, ![1, 12288]⟩
abbrev S16384x32x128 : Shape := ⟨3, ![16384, 32, 128]⟩
abbrev S1024x8192 : Shape := ⟨2, ![1024, 8192]⟩
abbrev S8192x1024 : Shape := ⟨2, ![8192, 1024]⟩
abbrev S1x1024 : Shape := ⟨2, ![1, 1024]⟩
abbrev S1024x128 : Shape := ⟨2, ![1024, 128]⟩
abbrev S1024x8x128 : Shape := ⟨3, ![1024, 8, 128]⟩
abbrev S1024x1024 : Shape := ⟨2, ![1024, 1024]⟩
abbrev S1024x4x128 : Shape := ⟨3, ![1024, 4, 128]⟩
abbrev S4096x128 : Shape := ⟨2, ![4096, 128]⟩
abbrev S1024x2x128 : Shape := ⟨3, ![1024, 2, 128]⟩
abbrev S1024x1x128 : Shape := ⟨3, ![1024, 1, 128]⟩
abbrev S4x4096x32x128 : Shape := ⟨4, ![4, 4096, 32, 128]⟩

abbrev nBuf : Space → Nat
  | .hbm => 22
  | .vmem => 49
  | .smem => 0
  | _ => 0

abbrev bufTy : (tb : Table) → Fin (tcTables nBuf tb) → BufTy
  | .hbm, ⟨0, _⟩ => ⟨S4x4096x8192, .bf16⟩
  | .hbm, ⟨1, _⟩ => ⟨S8192, .f32⟩
  | .hbm, ⟨2, _⟩ => ⟨S8192x12288, .fp8e4m3⟩
  | .hbm, ⟨3, _⟩ => ⟨S12288, .f32⟩
  | .hbm, ⟨4, _⟩ => ⟨S4x4096, .i32⟩
  | .hbm, ⟨5, _⟩ => ⟨S16384x8192, .bf16⟩
  | .hbm, ⟨6, _⟩ => ⟨S1x8192, .f32⟩
  | .hbm, ⟨7, _⟩ => ⟨S16384x1, .i32⟩
  | .hbm, ⟨8, _⟩ => ⟨S16384x8192, .fp8e4m3⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S1x12288, .f32⟩
  | .hbm, ⟨13, _⟩ => ⟨S16384x128, .f32⟩
  | .hbm, ⟨14, _⟩ => ⟨S16384x32x128, .bf16⟩
  | .hbm, ⟨15, _⟩ => ⟨S16384x32x128, .bf16⟩
  | .hbm, ⟨16, _⟩ => ⟨S16384x32x128, .bf16⟩
  | .hbm, ⟨17, _⟩ => ⟨S4x4096x32x128, .bf16⟩
  | .hbm, ⟨18, _⟩ => ⟨S4x4096x32x128, .bf16⟩
  | .hbm, ⟨19, _⟩ => ⟨S4x4096x32x128, .bf16⟩
  | .hbm, ⟨20, _⟩ => ⟨S4x4096x8192, .fp8e4m3⟩
  | .hbm, ⟨21, _⟩ => ⟨S4x4096, .f32⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S256x1, .i32⟩
  | .local _ .vmem, ⟨4, _⟩ => ⟨S256x1, .i32⟩
  | .local _ .vmem, ⟨5, _⟩ => ⟨S256x8192, .fp8e4m3⟩
  | .local _ .vmem, ⟨6, _⟩ => ⟨S256x8192, .fp8e4m3⟩
  | .local _ .vmem, ⟨7, _⟩ => ⟨S256x1, .f32⟩
  | .local _ .vmem, ⟨8, _⟩ => ⟨S256x1, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S1024x8192, .fp8e4m3⟩
  | .local _ .vmem, ⟨14, _⟩ => ⟨S1024x8192, .fp8e4m3⟩
  | .local _ .vmem, ⟨15, _⟩ => ⟨S8192x1024, .fp8e4m3⟩
  | .local _ .vmem, ⟨16, _⟩ => ⟨S8192x1024, .fp8e4m3⟩
  | .local _ .vmem, ⟨17, _⟩ => ⟨S1x1024, .f32⟩
  | .local _ .vmem, ⟨18, _⟩ => ⟨S1x1024, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x8x128, .bf16⟩
  | .local _ .vmem, ⟨24, _⟩ => ⟨S1024x8x128, .bf16⟩
  | .local _ .vmem, ⟨25, _⟩ => ⟨S1024x8192, .fp8e4m3⟩
  | .local _ .vmem, ⟨26, _⟩ => ⟨S1024x8192, .fp8e4m3⟩
  | .local _ .vmem, ⟨27, _⟩ => ⟨S8192x1024, .fp8e4m3⟩
  | .local _ .vmem, ⟨28, _⟩ => ⟨S8192x1024, .fp8e4m3⟩
  | .local _ .vmem, ⟨29, _⟩ => ⟨S1x1024, .f32⟩
  | .local _ .vmem, ⟨30, _⟩ => ⟨S1x1024, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x8x128, .bf16⟩
  | .local _ .vmem, ⟨36, _⟩ => ⟨S1024x8x128, .bf16⟩
  | .local _ .vmem, ⟨37, _⟩ => ⟨S1024x8192, .fp8e4m3⟩
  | .local _ .vmem, ⟨38, _⟩ => ⟨S1024x8192, .fp8e4m3⟩
  | .local _ .vmem, ⟨39, _⟩ => ⟨S8192x1024, .fp8e4m3⟩
  | .local _ .vmem, ⟨40, _⟩ => ⟨S8192x1024, .fp8e4m3⟩
  | .local _ .vmem, ⟨41, _⟩ => ⟨S1x1024, .f32⟩
  | .local _ .vmem, ⟨42, _⟩ => ⟨S1x1024, .f32⟩
  | .local _ .vmem, ⟨43, _⟩ => ⟨S1024x128, .f32⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x8x128, .bf16⟩
  | .local _ .vmem, ⟨48, _⟩ => ⟨S1024x8x128, .bf16⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_stg5_0 : Ref sig .tc := ⟨.vmem, 35, rfl⟩
abbrev cc2_stg5_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg4_1 : Ref sig .tc := ⟨.vmem, 46, rfl⟩
abbrev cc3_stg5_0 : Ref sig .tc := ⟨.vmem, 47, rfl⟩
abbrev cc3_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem5_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem5_1 : DmaSem sig := 48

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x8192 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x1024 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x8x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1024x8192 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8192x1024 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x8x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1024x8192 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8192x1024 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x8x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== KernelIdeal.lean ====
variable {F : FTy → Type} [FloatOps F]
-- ==== ReferenceIdeal.lean ====
abbrev S4x4096x8192 : Shape := ⟨3, ![4, 4096, 8192]⟩
abbrev S8192 : Shape := ⟨1, ![8192]⟩
abbrev S8192x12288 : Shape := ⟨2, ![8192, 12288]⟩
abbrev S12288 : Shape := ⟨1, ![12288]⟩
abbrev S4x4096 : Shape := ⟨2, ![4, 4096]⟩
abbrev S4x4096x32x128 : Shape := ⟨4, ![4, 4096, 32, 128]⟩
abbrev S4x4096x1 : Shape := ⟨3, ![4, 4096, 1]⟩
abbrev S1x1x8192 : Shape := ⟨3, ![1, 1, 8192]⟩
abbrev S4x4096x12288 : Shape := ⟨3, ![4, 4096, 12288]⟩
abbrev S1x1x12288 : Shape := ⟨3, ![1, 1, 12288]⟩
abbrev S4x4096x4096 : Shape := ⟨3, ![4, 4096, 4096]⟩
abbrev S1x1x64 : Shape := ⟨3, ![1, 1, 64]⟩
abbrev S4x4096x64 : Shape := ⟨3, ![4, 4096, 64]⟩
abbrev S4x4096x1x64 : Shape := ⟨4, ![4, 4096, 1, 64]⟩
abbrev S4x4096x32x64 : Shape := ⟨4, ![4, 4096, 32, 64]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x8192, .bf16⟩
  | .hbm, ⟨1, _⟩ => ⟨S8192, .f32⟩
  | .hbm, ⟨2, _⟩ => ⟨S8192x12288, .fp8e4m3⟩
  | .hbm, ⟨3, _⟩ => ⟨S12288, .f32⟩
  | .hbm, ⟨4, _⟩ => ⟨S4x4096, .i32⟩
  | .hbm, ⟨5, _⟩ => ⟨S4x4096x32x128, .bf16⟩
  | .hbm, ⟨6, _⟩ => ⟨S4x4096x32x128, .bf16⟩
  | .hbm, ⟨7, _⟩ => ⟨S4x4096x32x128, .bf16⟩
  | .hbm, ⟨8, _⟩ => ⟨S4x4096x8192, .fp8e4m3⟩
  | .hbm, ⟨9, _⟩ => ⟨S4x4096, .f32⟩
  | .local _ .vmem, ⟨0, _⟩ => ⟨S4x4096x8192, .bf16⟩
  | .local _ .vmem, ⟨1, _⟩ => ⟨S8192, .f32⟩
  | .local _ .vmem, ⟨2, _⟩ => ⟨S8192x12288, .fp8e4m3⟩
  | .local _ .vmem, ⟨3, _⟩ => ⟨S12288, .f32⟩
  | .local _ .vmem, ⟨4, _⟩ => ⟨S4x4096, .i32⟩
  | .local _ .vmem, ⟨5, _⟩ => ⟨S4x4096x32x128, .bf16⟩
  | .local _ .vmem, ⟨6, _⟩ => ⟨S4x4096x32x128, .bf16⟩
  | .local _ .vmem, ⟨7, _⟩ => ⟨S4x4096x32x128, .bf16⟩
  | .local _ .vmem, ⟨8, _⟩ => ⟨S4x4096x8192, .fp8e4m3⟩
  | .local _ .vmem, ⟨9, _⟩ => ⟨S4x4096, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096x32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4096x32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096x32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Exponent.lean ====
/- The power-of-two scale of a row, over the extended reals: no program is mentioned here.

   The kernel finds the exponent of a ratio by COUNTING the normal powers of two at or below it and builds `2 ^ e` as
   the product of two floats whose exponent fields it writes; the reference takes the floor of a base-two logarithm and
   the base-two exponential. `scaleWord_eq` and `inverseWord_eq` say the two give the same scale and the same inverse. -/
module

public import Idealize.ShloMosaic.Lib.Pipeline.ValueKit
public import Idealize.ShloMosaic.Lib.Pointwise

@[expose] public section

noncomputable section

namespace Cert.Rows

open Idealize.ShloMosaic

/-- A positive exponent field and an empty mantissa are a power of two. -/
theorem ofBits_field (b : BitVec 32) (n : ℕ) (h1 : 1 ≤ n) (h2 : n ≤ 254)
    (hs : (b.extractLsb' 31 1 == 1#1) = false) (he : (b.extractLsb' 23 8).toNat = n) (hm : (b.extractLsb' 0 23).toNat = 0) :
    Ideal.ofBits .f32 b = (((2 : ℝ) ^ ((n : ℤ) - 127) : ℝ) : EReal) := by
  have h3 : n ≠ 255 := by omega
  have h4 : n ≠ 0 := by omega
  have e : Ideal.ofBits .f32 b = Ideal.ieee 8 23 b := rfl
  rw [e]
  unfold Ideal.ieee
  simp only [Nat.reduceAdd, hs, he, hm]
  norm_num [h3, h4]
  rw [← EReal.coe_mul]
  have : (8388608 : ℝ) * 2 ^ ((n : ℤ) - 127 - 23) = 2 ^ ((n : ℤ) - 127) := by
    rw [zpow_sub₀ (by norm_num : (2 : ℝ) ≠ 0) ((n : ℤ) - 127) 23]
    norm_num
    ring
  exact_mod_cast congrArg (fun x : ℝ => (x : EReal)) this

/-- The count of the normal powers of two at or below a ratio: a one for each power not above it, added up. -/
def count (v : EReal) : EReal :=
  ∑ k : Fin 254, Scalar.select (Ideal.cmp .oge v (Ideal.ofBits .f32 ((BitVec.ofNat 32 k.val + 1#32) <<< 23)))
    (1 : EReal) 0

/-- The count with its comparisons as propositions. -/
theorem count_ite (v : EReal) : count v = ∑ k : Fin 254,
    if Ideal.ofBits .f32 ((BitVec.ofNat 32 k.val + 1#32) <<< 23) ≤ v then (1 : EReal) else 0 := by
  unfold count
  refine Finset.sum_congr rfl fun k _ => ?_
  generalize Ideal.ofBits .f32 ((BitVec.ofNat 32 k.val + 1#32) <<< 23) = p
  by_cases h : p ≤ v <;> simp [Scalar.select, Ideal.cmp, h]

/-- The power the ladder's step `k` compares with. -/
theorem ladder_step (k : Fin 254) :
    Ideal.ofBits .f32 ((BitVec.ofNat 32 k.val + 1#32) <<< 23) = (((2 : ℝ) ^ ((k.val : ℤ) - 126) : ℝ) : EReal) := by
  have h : ∀ k : Fin 254, ((((BitVec.ofNat 32 k.val + 1#32) <<< 23).extractLsb' 31 1 == 1#1) = false)
      ∧ (((BitVec.ofNat 32 k.val + 1#32) <<< 23).extractLsb' 23 8).toNat = k.val + 1
      ∧ (((BitVec.ofNat 32 k.val + 1#32) <<< 23).extractLsb' 0 23).toNat = 0 := by decide +kernel
  obtain ⟨a, b, c⟩ := h k
  have e : ((k.val + 1 : ℕ) : ℤ) - 127 = (k.val : ℤ) - 126 := by push_cast; ring
  rw [ofBits_field _ (k.val + 1) (by omega) (by omega) a b c, e]

/-- Adding up a one for each step at or below `L` counts the steps. -/
theorem sum_steps (L : ℤ) (h1 : -126 ≤ L) (h2 : L ≤ 127) :
    (∑ k : Fin 254, if (k.val : ℤ) - 126 ≤ L then (1 : ℝ) else 0) = ((L + 127 : ℤ) : ℝ) := by
  obtain ⟨n, hn⟩ : ∃ n : ℕ, L + 127 = n := ⟨(L + 127).toNat, by omega⟩
  rw [Finset.sum_boole, hn]
  have : (Finset.univ.filter fun k : Fin 254 => (k.val : ℤ) - 126 ≤ L) = Finset.univ.filter fun k : Fin 254 => k.val < n := by
    ext k
    simp only [Finset.mem_filter, Finset.mem_univ, true_and]
    omega
  rw [this]
  have hc : (Finset.univ.filter fun k : Fin 254 => k.val < n).card = n := by
    rw [Fin.card_filter_val_lt]
    omega
  rw [hc]
  simp

/-- The binary exponent of a ratio, as the reference finds it: the floor of the base-two logarithm. -/
def floorLog (r : ℝ) : ℤ := ⌊Real.log r / Real.log 2⌋

/-- A power of two is at or below `r` just when its exponent is at or below the floor of the logarithm. -/
theorem zpow_le_iff (r : ℝ) (h0 : 0 < r) (k : ℤ) : (2 : ℝ) ^ k ≤ r ↔ k ≤ floorLog r := by
  have hl : 0 < Real.log 2 := Real.log_pos (by norm_num)
  have hp : (0 : ℝ) < 2 ^ k := by positivity
  rw [floorLog, Int.le_floor, le_div_iff₀ hl, ← Real.log_zpow, Real.log_le_log_iff hp h0]

/-- The count at a ratio in the normal range is its binary exponent plus 127. -/
theorem count_eq (r : ℝ) (h0 : 0 < r) (h1 : -126 ≤ floorLog r) (h2 : floorLog r ≤ 127) :
    count (r : EReal) = (((floorLog r + 127 : ℤ) : ℝ) : EReal) := by
  rw [← sum_steps _ h1 h2]
  unfold count
  have hc : ∀ f : Fin 254 → ℝ, ((∑ k, f k : ℝ) : EReal) = ∑ k, (f k : EReal) := fun f =>
    map_sum (⟨⟨fun x : ℝ => (x : EReal), rfl⟩, fun x y => EReal.coe_add x y⟩ : ℝ →+ EReal) f Finset.univ
  rw [hc]
  refine Finset.sum_congr rfl fun k _ => ?_
  rw [ladder_step]
  have hp := zpow_le_iff r h0 ((k.val : ℤ) - 126)
  by_cases hk : (k.val : ℤ) - 126 ≤ floorLog r
  · have : (((2 : ℝ) ^ ((k.val : ℤ) - 126) : ℝ) : EReal) ≤ (r : EReal) := by exact_mod_cast hp.2 hk
    simp [hk, Ideal.cmp, Scalar.select, this]
  · have : ¬ (((2 : ℝ) ^ ((k.val : ℤ) - 126) : ℝ) : EReal) ≤ (r : EReal) := by
      intro h; exact hk (hp.1 (by exact_mod_cast h))
    simp [hk, Ideal.cmp, Scalar.select, this]

/-- The reference's test that a ratio is in the normal range. -/
def normal (v : EReal) : BitVec 1 :=
  IntOp.andi (Ideal.cmp .oge v (Ideal.ofBits .f32 0x00800000#32)) (Ideal.cmp .ole v (Ideal.ofBits .f32 0x7F7FFFFF#32))

/-- The kernel's exponent of a row of largest magnitude `a` and ratio `v`: the count less 126, zero outside the normal
    range and zero for a row of zeros. -/
def expWord (a v : EReal) : BitVec 32 :=
  if a = 0 then 0#32 else Scalar.select (normal v) (IntOp.subi (Ideal.fptosi 32 (count v)) 126#32) 0#32

/-- The reference's exponent of that row: one more than the floor of the base-two logarithm, with the same exceptions. -/
def expReal (a v : EReal) : EReal :=
  if a = 0 then 0 else Scalar.select (normal v)
    (Ideal.liftRound Int.floor (Ideal.div (Ideal.log v) (Ideal.log (Ideal.ofBits .f32 0x40000000#32))) + 1) 0

/-- The kernel's `2 ^ e`: the product of the two floats whose exponent fields are the two halves of `e` plus 127. -/
def powerWord (e : BitVec 32) : EReal :=
  Ideal.ofBits .f32 (IntOp.shli .vector (IntOp.addi (IntOp.shrsi .vector e 1#32) 127#32) 23#32)
    * Ideal.ofBits .f32 (IntOp.shli .vector (IntOp.addi (IntOp.subi e (IntOp.shrsi .vector e 1#32)) 127#32) 23#32)

/-- Two words with exponent fields in range, no sign and no mantissa, multiply to the power of two of the fields' sum. -/
theorem ofBits_mul (b b' : BitVec 32) (s : ℤ)
    (h : (b.extractLsb' 31 1 == 1#1) = false ∧ (b.extractLsb' 0 23).toNat = 0 ∧ 1 ≤ (b.extractLsb' 23 8).toNat
      ∧ (b.extractLsb' 23 8).toNat ≤ 254)
    (h' : (b'.extractLsb' 31 1 == 1#1) = false ∧ (b'.extractLsb' 0 23).toNat = 0 ∧ 1 ≤ (b'.extractLsb' 23 8).toNat
      ∧ (b'.extractLsb' 23 8).toNat ≤ 254)
    (hs : ((b.extractLsb' 23 8).toNat : ℤ) + (b'.extractLsb' 23 8).toNat = s + 254) :
    Ideal.ofBits .f32 b * Ideal.ofBits .f32 b' = (((2 : ℝ) ^ s : ℝ) : EReal) := by
  rw [ofBits_field b _ h.2.2.1 h.2.2.2 h.1 rfl h.2.1, ofBits_field b' _ h'.2.2.1 h'.2.2.2 h'.1 rfl h'.2.1,
    ← EReal.coe_mul, ← zpow_add₀ (by norm_num)]
  have : ((b.extractLsb' 23 8).toNat : ℤ) - 127 + ((b'.extractLsb' 23 8).toNat - 127) = s := by omega
  rw [this]

/-- The field facts of one product of two halves, decided. -/
def halvesOk (e : BitVec 32) (s : ℤ) : Bool :=
  let b := IntOp.shli .vector (IntOp.addi (IntOp.shrsi .vector e 1#32) 127#32) 23#32
  let b' := IntOp.shli .vector (IntOp.addi (IntOp.subi e (IntOp.shrsi .vector e 1#32)) 127#32) 23#32
  decide (((b.extractLsb' 31 1 == 1#1) = false ∧ (b.extractLsb' 0 23).toNat = 0 ∧ 1 ≤ (b.extractLsb' 23 8).toNat
      ∧ (b.extractLsb' 23 8).toNat ≤ 254)
    ∧ ((b'.extractLsb' 31 1 == 1#1) = false ∧ (b'.extractLsb' 0 23).toNat = 0 ∧ 1 ≤ (b'.extractLsb' 23 8).toNat
      ∧ (b'.extractLsb' 23 8).toNat ≤ 254)
    ∧ ((b.extractLsb' 23 8).toNat : ℤ) + (b'.extractLsb' 23 8).toNat = s + 254)

/-- If the two halves of an exponent are fields of normal float32 powers, the product of those powers is two to the exponent. -/
theorem powerWord_of_ok (e : BitVec 32) (s : ℤ) (h : halvesOk e s = true) : powerWord e = (((2 : ℝ) ^ s : ℝ) : EReal) := by
  have h' := of_decide_eq_true h
  exact ofBits_mul _ _ s h'.1 h'.2.1 h'.2.2

/-- The kernel's power of two at every exponent word a count can give. -/
theorem powerWord_eq (n : ℕ) (h1 : 1 ≤ n) (h2 : n ≤ 254) :
    powerWord (IntOp.subi (BitVec.ofNat 32 n) 126#32) = (((2 : ℝ) ^ ((n : ℤ) - 126) : ℝ) : EReal) := by
  have h : ∀ n : Fin 255, 1 ≤ n.val → halvesOk (IntOp.subi (BitVec.ofNat 32 n.val) 126#32) ((n.val : ℤ) - 126) = true := by
    decide +kernel
  exact powerWord_of_ok _ _ (h ⟨n, by omega⟩ h1)

/-- The kernel's power of two at every such word negated. -/
theorem powerWord_neg (n : ℕ) (h1 : 1 ≤ n) (h2 : n ≤ 254) :
    powerWord (IntOp.subi 0#32 (IntOp.subi (BitVec.ofNat 32 n) 126#32)) = (((2 : ℝ) ^ (126 - (n : ℤ)) : ℝ) : EReal) := by
  have h : ∀ n : Fin 255, 1 ≤ n.val →
      halvesOk (IntOp.subi 0#32 (IntOp.subi (BitVec.ofNat 32 n.val) 126#32)) (126 - (n.val : ℤ)) = true := by
    decide +kernel
  exact powerWord_of_ok _ _ (h ⟨n, by omega⟩ h1)

/-- The smallest normal number and the largest finite one. -/
theorem ofBits_tiny : Ideal.ofBits .f32 0x00800000#32 = (((2 : ℝ) ^ (-126 : ℤ) : ℝ) : EReal) :=
  ofBits_field _ 1 (by norm_num) (by norm_num) (by decide) (by decide) (by decide)

/-- The float32 constant two is two. -/
theorem ofBits_two : Ideal.ofBits .f32 0x40000000#32 = ((2 : ℝ) : EReal) := by
  have := ofBits_field 0x40000000#32 128 (by norm_num) (by norm_num) (by decide) (by decide) (by decide)
  norm_num at this
  exact this

/-- The largest float32 is a real below two to the 128. -/
theorem ofBits_largest : ∃ r : ℝ, Ideal.ofBits .f32 0x7F7FFFFF#32 = (r : EReal) ∧ r < (2 : ℝ) ^ (128 : ℤ) := by
  refine ⟨(2 ^ 23 + 8388607 : ℕ) * (2 : ℝ) ^ (104 : ℤ), ?_, ?_⟩
  · have e : Ideal.ofBits .f32 0x7F7FFFFF#32 = Ideal.ieee 8 23 0x7F7FFFFF#32 := rfl
    rw [e]
    unfold Ideal.ieee
    have a : ((0x7F7FFFFF#32).extractLsb' 31 1 == 1#1) = false := by decide
    have b : ((0x7F7FFFFF#32).extractLsb' 23 8).toNat = 254 := by decide
    have c : ((0x7F7FFFFF#32).extractLsb' 0 23).toNat = 8388607 := by decide
    simp only [Nat.reduceAdd, a, b, c]
    norm_num
  · norm_num

/-- Both comparisons of a range test holding are the two inequalities. -/
theorem le_of_andi (v x y : EReal) (h : IntOp.andi (Ideal.cmp .oge v x) (Ideal.cmp .ole v y) = 1) : x ≤ v ∧ v ≤ y := by
  by_cases h1 : x ≤ v <;> by_cases h2 : v ≤ y <;> simp [Ideal.cmp, IntOp.andi, h1, h2] at h ⊢

/-- Of every row there is one exponent, in reach of a float's field, that the kernel holds as a word and the reference as
    a number. -/
theorem exponent (a v : EReal) : ∃ n : ℕ, 1 ≤ n ∧ n ≤ 254 ∧ expWord a v = IntOp.subi (BitVec.ofNat 32 n) 126#32
    ∧ expReal a v = ((((n : ℤ) - 126 : ℤ) : ℝ) : EReal) := by
  have zero : (0#32 : BitVec 32) = IntOp.subi (BitVec.ofNat 32 126) 126#32 := by decide
  by_cases ha : a = 0
  · exact ⟨126, by norm_num, by norm_num, by simp [expWord, ha]; decide, by simp [expReal, ha]⟩
  by_cases hn : normal v = 1
  · obtain ⟨M, hM, hM'⟩ := ofBits_largest
    have hv : (((2 : ℝ) ^ (-126 : ℤ) : ℝ) : EReal) ≤ v ∧ v ≤ (M : EReal) := by
      rw [normal, ofBits_tiny, hM] at hn
      exact le_of_andi v _ _ hn
    obtain ⟨r, rfl⟩ : ∃ r : ℝ, v = (r : EReal) := by
      induction v with
      | bot => exact absurd hv.1 (by simp)
      | top => exact absurd hv.2 (by simp)
      | coe r => exact ⟨r, rfl⟩
    have r1 : (2 : ℝ) ^ (-126 : ℤ) ≤ r := by exact_mod_cast hv.1
    have r2 : r ≤ M := by exact_mod_cast hv.2
    have r0 : 0 < r := lt_of_lt_of_le (by positivity) r1
    have L1 : -126 ≤ floorLog r := (zpow_le_iff r r0 _).1 r1
    have L2 : floorLog r ≤ 127 := by
      by_contra h
      have : (2 : ℝ) ^ (128 : ℤ) ≤ r := (zpow_le_iff r r0 _).2 (by omega)
      linarith
    obtain ⟨n, hnat⟩ : ∃ n : ℕ, floorLog r + 127 = n := ⟨(floorLog r + 127).toNat, by omega⟩
    refine ⟨n, by omega, by omega, ?_, ?_⟩
    · rw [expWord, if_neg ha, Scalar.select, if_pos hn, count_eq r r0 L1 L2, hnat]
      have : Ideal.fptosi 32 (((n : ℤ) : ℝ) : EReal) = BitVec.ofNat 32 n := by
        have hn254 : n ≤ 254 := by omega
        rw [Ideal.fptosi, Ideal.toIntClamped_coe, if_pos (by positivity), Int.floor_intCast]
        have : max (-((2 ^ (32 - 1) : ℕ) : ℤ)) (min (((2 ^ (32 - 1) : ℕ) : ℤ) - 1) (n : ℤ)) = (n : ℤ) := by
          norm_num
          omega
        rw [this]
        exact BitVec.ofInt_natCast 32 n
      rw [this]
    · rw [expReal, if_neg ha, Scalar.select, if_pos hn, ofBits_two]
      have h2 : (Ideal.log ((2 : ℝ) : EReal)) = ((Real.log 2 : ℝ) : EReal) := by
        rw [Ideal.log_coe, if_neg (by norm_num)]
      have hr : (Ideal.log (r : EReal)) = ((Real.log r : ℝ) : EReal) := by
        rw [Ideal.log_coe, if_neg (not_le.2 r0)]
      have hl : Real.log 2 ≠ 0 := (Real.log_pos (by norm_num)).ne'
      have hd : Ideal.div ((Real.log r : ℝ) : EReal) ((Real.log 2 : ℝ) : EReal) = ((Real.log r / Real.log 2 : ℝ) : EReal) := by
        rw [Ideal.div, if_neg (by exact_mod_cast hl), EReal.coe_div, EReal.div_eq_inv_mul, mul_comm]
      rw [h2, hr, hd, Ideal.liftRound_coe]
      have : ((n : ℤ) - 126 : ℤ) = floorLog r + 1 := by omega
      rw [this, floorLog]
      push_cast
      rfl
  · refine ⟨126, by norm_num, by norm_num, ?_, ?_⟩
    · rw [expWord, if_neg ha, Scalar.select, if_neg hn]; exact zero
    · rw [expReal, if_neg ha, Scalar.select, if_neg hn]; norm_num

/-- The base-two exponential of a whole number is its power of two. -/
theorem exp2_int (z : ℤ) : Ideal.exp2 (((z : ℤ) : ℝ) : EReal) = (((2 : ℝ) ^ z : ℝ) : EReal) := by
  change ((Real.rpow 2 (z : ℝ) : ℝ) : EReal) = _
  rw [← Real.rpow_intCast]
  rfl

/-- The scale of a row: the kernel's product of two floats is the reference's base-two exponential. -/
theorem scaleWord_eq (a v : EReal) : powerWord (expWord a v) = Ideal.exp2 (expReal a v) := by
  obtain ⟨n, h1, h2, hw, hr⟩ := exponent a v
  rw [hw, hr, powerWord_eq n h1 h2, exp2_int]

/-- The inverse scale of a row, alike. -/
theorem inverseWord_eq (a v : EReal) : powerWord (IntOp.subi 0#32 (expWord a v)) = Ideal.exp2 (0 - expReal a v) := by
  obtain ⟨n, h1, h2, hw, hr⟩ := exponent a v
  have : (0 : EReal) - ((((n : ℤ) - 126 : ℤ) : ℝ) : EReal) = (((126 - (n : ℤ) : ℤ) : ℝ) : EReal) := by
    rw [← EReal.coe_zero, ← EReal.coe_sub]
    congr 1
    push_cast
    ring
  rw [hw, hr, powerWord_neg n h1 h2, this, exp2_int]

end Cert.Rows
-- ==== Proof.Rows.lean ====
/- What one row of the input turns into, over the extended reals: the functions of a row both programs are read as.

   `X` is a row of activations, `G` the norm's gain. No program is mentioned here. -/
module

public import proofs.«01_k».proof.Proof.Exponent

@[expose] public section

noncomputable section

namespace Cert.Rows

open Idealize.ShloMosaic

/-- The row divided by the root of its mean square (a small constant added), times the gain. -/
def norm (X G : Fin 8192 → EReal) (k : Fin 8192) : EReal :=
  X k * Ideal.rsqrt (Ideal.div (∑ i, X i * X i) (Ideal.ofBits .f32 0x46000000#32) + Ideal.ofBits .f32 0x358637BD#32) * G k

/-- The largest magnitude in the normalised row. -/
def amax (X G : Fin 8192 → EReal) : EReal :=
  Finset.univ.fold max (Ideal.ofBits .f32 0xFF800000#32) fun k => FloatOps.absf (F := Ideal) (φ := .f32) (norm X G k)

/-- That magnitude over 448, the largest value an eight-bit code holds. -/
def ratio (X G : Fin 8192 → EReal) : EReal := amax X G * Ideal.ofBits .f32 0x3B124925#32

/-- The row's scale, a power of two, in the reference's words. -/
def scale (X G : Fin 8192 → EReal) : EReal := Ideal.exp2 (expReal (amax X G) (ratio X G))

/-- One over the scale. -/
def inverse (X G : Fin 8192 → EReal) : EReal := Ideal.exp2 (0 - expReal (amax X G) (ratio X G))

/-- The row's codes: the normalised row over the scale, held between -448 and 448. -/
def code (X G : Fin 8192 → EReal) (k : Fin 8192) : EReal :=
  min (Ideal.ofBits .f32 0x43E00000#32) (max (Ideal.ofBits .f32 0xC3E00000#32) (norm X G k * inverse X G))

/-- The angle of position `p` in pair `i`: the position times 10000 to the power `-2 i / 128`. -/
def angle (p : BitVec 32) (i : ℕ) : EReal :=
  ((p.toInt : ℝ) : EReal) * Ideal.pow (Ideal.ofBits .f32 0x461C4000#32)
    (Ideal.div (0 - (((IntOp.muli 2#32 (BitVec.ofNat 32 i)).toInt : ℝ) : EReal)) (Ideal.ofBits .f32 0x43000000#32))

/-- A row's codes against a column of weights. -/
def dot (X G : Fin 8192 → EReal) (w : Fin 8192 → EReal) : EReal := ∑ k, code X G k * w k

end Cert.Rows
-- ==== Proof.QuantBlock.lean ====
/- One block of the kernel's first stage: what its body computes of a block of 256 rows, read at an index.

   The codes and the scale are the row functions of Proof/Rows.lean; the two tables are the rotation's cosine and signed
   sine, each times the row's scale. -/
module

public import proofs.«01_k».proof.Proof.Gen.KernelIdeal.Skeleton
public import proofs.«01_k».proof.Proof.Gen.KernelIdeal
public import proofs.«01_k».proof.Proof.Rows

@[expose] public section

set_option maxRecDepth 16384

noncomputable section

namespace Cert.KernelIdeal.Gen

open Idealize.ShloMosaic Idealize.ShloMosaic.TcCoe Idealize.SL.Sem Cert.Rows

variable (x : Vec Ideal S256x8192 .bf16) (g : Vec Ideal S1x8192 .f32)

/-- Row `r` of the block. -/
abbrev rowX (r : Fin 256) : Fin 8192 → EReal := fun k => x (ix2 r k)
/-- The gain. -/
abbrev rowG : Fin 8192 → EReal := fun k => g (ix2 0 k)

/-- The normalised block. -/
theorem pay3_apply (r : Fin 256) (k : Fin 8192) : k0_pay3 (F := Ideal) x g (ix2 r k) = norm (rowX x r) (rowG g) k := by
  pointwise [k0_pay3]
  unfold Rows.norm rowX rowG
  with_reducible rfl

/-- Its largest magnitudes. -/
theorem pay4_apply (r : Fin 256) (z : Fin 1) : k0_pay4 (F := Ideal) x g (ix2 r z) = amax (rowX x r) (rowG g) := by
  pointwise [k0_pay4, pay3_apply x g]
  unfold amax
  with_reducible rfl

/-- A column times a constant, at an index; the constant's bits are kept a variable, so that nothing computes them. -/
theorem mulf_const (v : FVec Ideal S256x1 .f32) (b : BitVec 32) (j : S256x1.Idx) :
    mulf v (broadcast S256x1 (Scalar.ofBits (F := Ideal) .f32 b)) j = v j * Ideal.ofBits .f32 b := rfl

/-- The ratios. -/
theorem pay5_apply (r : Fin 256) (z : Fin 1) : k0_pay5 (F := Ideal) x g (ix2 r z) = ratio (rowX x r) (rowG g) := by
  unfold ratio
  rw [← pay4_apply x g r z]
  exact mulf_const _ _ _

/-- The ladder of powers of two, as a row. -/
def ladder : FVec Ideal S1x254 .f32 :=
  bitcastToFloat (F := Ideal) .f32 (shli (addi (iota .tc S1x254 32 [1] iota_S1x254_d1_w32) (broadcast S1x254 1#32))
    (broadcast S1x254 23#32))

/-- A shift of a vector entry by 23 is the shift of its word. -/
theorem shli_vector_23 (b : BitVec 32) : IntOp.shli .vector b 23#32 = b <<< 23 := by simp [IntOp.shli]

/-- The ladder of powers of two at an entry. -/
theorem ladder_apply (z : Fin 1) (k : Fin 254) :
    ladder (ix2 z k) = Ideal.ofBits .f32 ((BitVec.ofNat 32 k.val + 1#32) <<< 23) := by
  rw [← shli_vector_23, ← IntOp.addi.eq_1]
  pointwise [ladder]

/-- The count is the row sum of the comparisons, as an integer. -/
theorem pay6_eq : k0_pay6 (F := Ideal) x g = fptosi 32 (shapeCast S256x1 (multiReduction .add [1] S256
    (select (cmpf .oge (broadcastTo S256x254 (k0_pay5 (F := Ideal) x g) broadcasts_S256x1_S256x254)
      (broadcastTo S256x254 ladder broadcasts_S1x254_S256x254))
      (broadcast S256x254 (Scalar.ofBits (F := Ideal) .f32 0x3F800000#32))
      (broadcast S256x254 (Scalar.ofBits (F := Ideal) .f32 0x00000000#32)))
    0x00000000#32 reduces_S256x254_S256 (.inl rfl) rfl) shapeCasts_S256_S256x1) := rfl

/-- The kernel's count. -/
theorem pay6_apply (r : Fin 256) (z : Fin 1) :
    k0_pay6 (F := Ideal) x g (ix2 r z) = Ideal.fptosi 32 (count (ratio (rowX x r) (rowG g))) := by
  rw [pay6_eq, count_ite]
  pointwise [pay5_apply x g, ladder_apply]
  rfl

/-- A range test of a column, at an index. -/
theorem range_const (v : FVec Ideal S256x1 .f32) (b b' : BitVec 32) (j : S256x1.Idx) :
    andi (cmpf .oge v (broadcast S256x1 (Scalar.ofBits (F := Ideal) .f32 b)))
        (cmpf .ole v (broadcast S256x1 (Scalar.ofBits (F := Ideal) .f32 b'))) j
      = IntOp.andi (Ideal.cmp .oge (v j) (Ideal.ofBits .f32 b)) (Ideal.cmp .ole (v j) (Ideal.ofBits .f32 b')) := rfl

/-- The kernel's range test. -/
theorem pay7_apply (r : Fin 256) (z : Fin 1) :
    k0_pay7 (F := Ideal) x g (ix2 r z) = normal (ratio (rowX x r) (rowG g)) := by
  unfold normal
  rw [← pay5_apply x g r z]
  exact range_const _ _ _ _

/-- The exponent at an entry, over any count; the constant is kept variable. -/
theorem pay8_eq (a : FVec Ideal S256x1 .f32) (e : IVec S256x1 32) (n : IVec S256x1 1) (c : BitVec 32) (j : S256x1.Idx) :
    k0_pay8 (F := Ideal) a e n c j
    = Scalar.select (Ideal.cmp .oeq (a j) (Ideal.ofBits .f32 0x00000000#32)) 0#32
      (Scalar.select (n j) (IntOp.subi (e j) c) 0#32) := rfl

/-- The kernel's exponent. -/
theorem pay8_apply (r : Fin 256) (z : Fin 1) :
    k0_pay8 (F := Ideal) (k0_pay4 x g) (k0_pay6 x g) (k0_pay7 x g) 126#32 (ix2 r z)
      = expWord (amax (rowX x r) (rowG g)) (ratio (rowX x r) (rowG g)) := by
  rw [pay8_eq, pay4_apply, pay6_apply, pay7_apply, Ideal.ofBits_zero_f32, expWord]
  by_cases h : amax (rowX x r) (rowG g) = 0 <;> simp [h, Ideal.cmp, Scalar.select]

/-- The scale at an entry is the power of two of the exponent there. -/
theorem pay9_eq (a : FVec Ideal S256x1 .f32) (e : IVec S256x1 32) (n : IVec S256x1 1) (c : BitVec 32) (j : S256x1.Idx) :
    k0_pay9 (F := Ideal) a e n c j = powerWord (k0_pay8 (F := Ideal) a e n c j) := by
  unfold k0_pay9 powerWord
  generalize k0_pay8 (F := Ideal) a e n c = v
  rfl

/-- The scale. -/
theorem pay9_apply (r : Fin 256) (z : Fin 1) :
    k0_pay9 (F := Ideal) (k0_pay4 x g) (k0_pay6 x g) (k0_pay7 x g) 126#32 (ix2 r z) = scale (rowX x r) (rowG g) := by
  rw [pay9_eq, pay8_apply, scaleWord_eq, scale]

/-- The inverse scale, as a column. -/
def inverseCol (e : IVec S256x1 32) : FVec Ideal S256x1 .f32 := fun j => powerWord (IntOp.subi 0#32 (e j))

/-- The codes are the rows times their inverse scales, clamped. -/
theorem pay10_eq (h : FVec Ideal S256x8192 .f32) (a : FVec Ideal S256x1 .f32) (e : IVec S256x1 32) (n : IVec S256x1 1)
    (c : BitVec 32) : k0_pay10 (F := Ideal) h a e n c
      = minimumf (broadcast S256x8192 (Scalar.ofBits (F := Ideal) .f32 0x43E00000#32))
          (maximumf (broadcast S256x8192 (Scalar.ofBits (F := Ideal) .f32 0xC3E00000#32))
            (mulf h (broadcastTo S256x8192 (inverseCol (k0_pay8 (F := Ideal) a e n c)) broadcasts_S256x1_S256x8192))) := by
  unfold k0_pay10
  generalize k0_pay8 (F := Ideal) a e n c = v
  rfl

/-- The column of inverse scales at a row. -/
theorem inverseCol_apply (r : Fin 256) (z : Fin 1) :
    inverseCol (k0_pay8 (F := Ideal) (k0_pay4 x g) (k0_pay6 x g) (k0_pay7 x g) 126#32) (ix2 r z)
      = inverse (rowX x r) (rowG g) := by
  rw [inverseCol, pay8_apply, inverseWord_eq, inverse]

/-- A clamped block, at an index. -/
theorem clamp_const (v : FVec Ideal S256x8192 .f32) (b b' : BitVec 32) (j : S256x8192.Idx) :
    minimumf (broadcast S256x8192 (Scalar.ofBits (F := Ideal) .f32 b))
        (maximumf (broadcast S256x8192 (Scalar.ofBits (F := Ideal) .f32 b')) v) j
      = min (Ideal.ofBits .f32 b) (max (Ideal.ofBits .f32 b') (v j)) := rfl

/-- The rounding to float8 changes nothing over the extended reals. -/
theorem pay11_eq (v : FVec Ideal S256x8192 .f32) : k0_pay11 (F := Ideal) v = v := rfl

/-- A block times a column, at an index. -/
theorem mulf_col (h : FVec Ideal S256x8192 .f32) (w : FVec Ideal S256x1 .f32) (r : Fin 256) (k : Fin 8192) :
    mulf h (broadcastTo S256x8192 w broadcasts_S256x1_S256x8192) (ix2 r k) = h (ix2 r k) * w (ix2 r 0) := by
  pointwise []

/-- The codes. -/
theorem pay11_apply (r : Fin 256) (k : Fin 8192) :
    k0_pay11 (F := Ideal) (k0_pay10 (k0_pay3 x g) (k0_pay4 x g) (k0_pay6 x g) (k0_pay7 x g) 126#32) (ix2 r k)
      = code (rowX x r) (rowG g) k := by
  rw [pay11_eq, pay10_eq, code, ← inverseCol_apply x g r 0, ← pay3_apply x g r k, ← mulf_col]
  exact clamp_const _ _ _ _

end Cert.KernelIdeal.Gen
-- ==== Proof.TableBlock.lean ====
/- The rotation tables of the kernel's first stage, read at an index: the cosine and the signed sine of a position's
   angle, each times the row's scale. -/
module

public import proofs.«01_k».proof.Proof.Gen.KernelIdeal.Skeleton
public import proofs.«01_k».proof.Proof.Gen.KernelIdeal
public import proofs.«01_k».proof.Proof.Rows

@[expose] public section

set_option maxRecDepth 16384

noncomputable section

namespace Cert.KernelIdeal.Gen

open Idealize.ShloMosaic Idealize.ShloMosaic.TcCoe Idealize.SL.Sem Cert.Rows

/-- The angles: lane `l` holds the angle of pair `l % 64`. -/
theorem pay12_apply (z : IVec S256x1 32) (r : Fin 256) (l : Fin 128) :
    k0_pay12 (F := Ideal) z (ix2 r l) = angle (z (ix2 r 0)) (l.val % 64) := by
  pointwise [k0_pay12]
  have h : ∀ l : Fin 128, (Scalar.select
                  (IntOp.andi
                    (IntOp.xori
                      (IntOp.cmpi CmpIPredicate.slt
                        (IntOp.remsi ArithUnit.vector (BitVec.ofNat 32 l.val)
                          (Scalar.select (Scalar.cmpi CmpIPredicate.eq 64#32 0#32) 1#32 64#32))
                        0#32)
                      (Scalar.cmpi CmpIPredicate.slt
                        (Scalar.select (Scalar.cmpi CmpIPredicate.eq 64#32 0#32) 1#32 64#32) 0#32))
                    (IntOp.cmpi CmpIPredicate.ne
                      (IntOp.remsi ArithUnit.vector (BitVec.ofNat 32 l.val)
                        (Scalar.select (Scalar.cmpi CmpIPredicate.eq 64#32 0#32) 1#32 64#32))
                      0#32))
                  (IntOp.addi
                    (IntOp.remsi ArithUnit.vector (BitVec.ofNat 32 l.val)
                      (Scalar.select (Scalar.cmpi CmpIPredicate.eq 64#32 0#32) 1#32 64#32))
                    (Scalar.select (Scalar.cmpi CmpIPredicate.eq 64#32 0#32) 1#32 64#32))
                  (IntOp.remsi ArithUnit.vector (BitVec.ofNat 32 l.val)
                    (Scalar.select (Scalar.cmpi CmpIPredicate.eq 64#32 0#32) 1#32 64#32))) = BitVec.ofNat 32 (l.val % 64) := by
    decide +kernel
  have e : ∀ b : BitVec 32, FloatOps.sitofp (F := Ideal) .f32 b = ((b.toInt : ℝ) : EReal) := fun _ => rfl
  rw [h l, e, e]
  unfold angle
  with_reducible rfl

/-- The cosine table. -/
theorem pay1_apply (s : FVec Ideal S256x1 .f32) (a : FVec Ideal S256x128 .f32) (r : Fin 256) (l : Fin 128) :
    k0_pay1 (F := Ideal) s a (ix2 r l) = Ideal.cos (a (ix2 r l)) * s (ix2 r 0) := by
  pointwise [k0_pay1]

/-- The sign of the lower half of the lanes. -/
theorem pay14_apply (z : Fin 1) (l : Fin 128) : k0_pay14 (F := Ideal) (ix2 z l) = Ideal.ofBits .f32 0xBF800000#32 := rfl

/-- The sign of the upper half. -/
theorem pay15_apply (z : Fin 1) (l : Fin 128) : k0_pay15 (F := Ideal) (ix2 z l) = 1 := by
  rw [← Ideal.ofBits_one_f32]
  rfl

/-- The bits of minus one. -/
theorem neg_one : Ideal.ofBits .f32 0xBF800000#32 = (-1 : EReal) := by
  have e : Ideal.ofBits .f32 0xBF800000#32 = Ideal.ieee 8 23 0xBF800000#32 := rfl
  rw [e]
  unfold Ideal.ieee
  have a : ((0xBF800000#32).extractLsb' 31 1 == 1#1) = true := by decide
  have b : ((0xBF800000#32).extractLsb' 23 8).toNat = 127 := by decide
  have c : ((0xBF800000#32).extractLsb' 0 23).toNat = 0 := by decide
  simp only [Nat.reduceAdd, a, b, c]
  norm_num

/-- The signed sine table. -/
theorem pay2_apply (s : FVec Ideal S256x1 .f32) (a : FVec Ideal S256x128 .f32) (p q : FVec Ideal S1x128 .f32) (r : Fin 256) (l : Fin 128) :
    k0_pay2 (F := Ideal) s a k0_pay13 p q (ix2 r l)
      = Ideal.sin (a (ix2 r l)) * (if l.val < 64 then p (ix2 0 l) else q (ix2 0 l)) * s (ix2 r 0) := by
  pointwise [k0_pay2, k0_pay13]
  have h : ∀ l : Fin 128, IntOp.cmpi CmpIPredicate.slt (BitVec.ofNat 32 l.val) 64#32 = if l.val < 64 then 1#1 else 0#1 := by
    decide +kernel
  rw [h l]
  by_cases hl : l.val < 64 <;> simp [hl, Scalar.select]

end Cert.KernelIdeal.Gen
-- ==== Proof.QuantArrays.lean ====
/- The arrays the kernel's first stage leaves, as functions of the arrays it reads: the codes, the scales and the two
   rotation tables of all 16384 rows. -/
module
public import proofs.«01_k».proof.Proof.Gen.KernelIdeal.Frame
public import proofs.«01_k».proof.Proof.QuantBlock
public import proofs.«01_k».proof.Proof.TableBlock
public import Idealize.ShloMosaic.Lib.Pipeline.ValueKit
public import Idealize.ShloMosaic.Lib.Pointwise
@[expose] public section
set_option maxRecDepth 16384
noncomputable section
namespace Cert.KernelIdeal.Gen
open Idealize.ShloMosaic Idealize.ShloMosaic.TcCoe Idealize.SL.Sem Cert.Rows
open Idealize.ShloMosaic.Pipeline (Dat)

variable (V : (c : Dev nD) → (b : Ref sig .tc) → Buf (Elt Ideal) ((c : Thread nD τ).loc b))

/-- Row `r` of the activations. -/
abbrev actRow (X : Vec Ideal S16384x8192 .bf16) (r : Fin 16384) : Fin 8192 → EReal := fun k => X (ix2 r k)
/-- The codes of all rows. -/
def codesArr (X : Vec Ideal S16384x8192 .bf16) (G : Vec Ideal S1x8192 .f32) : Vec Ideal S16384x8192 .fp8e4m3 :=
  fun j => code (actRow X (j 0)) (rowG G) (j 1)
/-- The scales of all rows. -/
def scaleArr (X : Vec Ideal S16384x8192 .bf16) (G : Vec Ideal S1x8192 .f32) : Vec Ideal S16384x1 .f32 :=
  fun j => scale (actRow X (j 0)) (rowG G)
/-- The cosine table of all rows. -/
def cosArr (X : Vec Ideal S16384x8192 .bf16) (G : Vec Ideal S1x8192 .f32) (P : Vec Ideal S16384x1 .i32) : Vec Ideal S16384x128 .f32 :=
  fun j => Ideal.cos (angle (P (ix2 (j 0) 0)) ((j 1).val % 64)) * scale (actRow X (j 0)) (rowG G)
/-- The signed sine table of all rows. -/
def sinArr (X : Vec Ideal S16384x8192 .bf16) (G : Vec Ideal S1x8192 .f32) (P : Vec Ideal S16384x1 .i32) : Vec Ideal S16384x128 .f32 :=
  fun j => Ideal.sin (angle (P (ix2 (j 0) 0)) ((j 1).val % 64)) * (if (j 1).val < 64 then -1 else 1)
    * scale (actRow X (j 0)) (rowG G)

/-- Each window's block at point `t`. -/
theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- A row of a block of the activations is the row of the array it sits at. -/
theorem rowX_blk (c : Dev nD) (t : Fin cfg0.N) (y : Fin 256) (R : Fin 16384) (h : R.val = t.val * 256 + y.val) :
    rowX (iblk0 V c 0 t) y = actRow (V c main_v0) R := by
  funext k
  unfold rowX actRow
  blk_ext [iblk0, idx0 t]

/-- The gain's block is the gain. -/
theorem rowG_blk (c : Dev nD) (t : Fin cfg0.N) : rowG (iblk0 V c 1 t) = rowG (V c main_v1) := by
  funext k
  unfold rowG
  blk_ext [iblk0, idx0 t]

/-- The same for the positions. -/
theorem pos_blk (c : Dev nD) (t : Fin cfg0.N) (y : Fin 256) (R : Fin 16384) (h : R.val = t.val * 256 + y.val) :
    (iblk0 V c 2 t : Vec Ideal S256x1 .i32) (ix2 y 0) = (V c main_v2 : Vec Ideal S16384x1 .i32) (ix2 R 0) := by
  blk_ext [iblk0, idx0 t]

/-- The codes' array after the stage. -/
theorem arr3 (c : Dev nD) : (dat0 V c).arrAt 3 cfg0.N = codesArr (V c main_v0) (V c main_v1) := by
  refine (dat0 V c).arrAt_eq_of_covers 3 _ (by decide +kernel) fun t hf y => ?_
  blk_simp
  rw [after0_3]
  unfold out0_3 k0_pay18 k0_pay17 k0_pay16
  frame_out
  idx_vars y
  refine (pay11_apply _ _ _ _).trans ?_
  unfold codesArr
  congr 1
  · refine rowX_blk V c t y0 _ ?_
    blk_simp [idx0 t]
  · exact rowG_blk V c t
  · apply Fin.ext
    blk_simp [idx0 t]

/-- The scales' array after the stage. -/
theorem arr4 (c : Dev nD) : (dat0 V c).arrAt 4 cfg0.N = scaleArr (V c main_v0) (V c main_v1) := by
  refine (dat0 V c).arrAt_eq_of_covers 4 _ (by decide +kernel) fun t hf y => ?_
  blk_simp
  rw [after0_4]
  unfold out0_4 k0_pay19 k0_pay18 k0_pay17 k0_pay16
  frame_out
  idx_vars y
  refine (pay9_apply _ _ _ _).trans ?_
  unfold scaleArr
  congr 1
  · refine rowX_blk V c t y0 _ ?_
    blk_simp [idx0 t]
  · exact rowG_blk V c t

/-- A block's cosine table, from its reads of the arrays. -/
theorem cosArr_at (X : Vec Ideal S16384x8192 .bf16) (G : Vec Ideal S1x8192 .f32) (P : Vec Ideal S16384x1 .i32)
    (j : S16384x128.Idx) (x : Vec Ideal S256x8192 .bf16) (g : Vec Ideal S1x8192 .f32) (p : Vec Ideal S256x1 .i32)
    (r : Fin 256) (l : Fin 128) (hx : rowX x r = actRow X (j 0)) (hg : rowG g = rowG G) (hp : p (ix2 r 0) = P (ix2 (j 0) 0))
    (hl : (j 1).val = l.val) :
    k0_pay1 (F := Ideal) (k0_pay9 (k0_pay4 x g) (k0_pay6 x g) (k0_pay7 x g) 126#32) (k0_pay12 p) (ix2 r l)
      = cosArr X G P j := by
  rw [pay1_apply, pay9_apply, pay12_apply, hx, hg, hp, cosArr, hl]

/-- The cosine table after the stage. -/
theorem arr5 (c : Dev nD) : (dat0 V c).arrAt 5 cfg0.N = cosArr (V c main_v0) (V c main_v1) (V c main_v2) := by
  refine (dat0 V c).arrAt_eq_of_covers 5 _ (by decide +kernel) fun t hf y => ?_
  blk_simp
  rw [after0_5]
  unfold out0_5 k0_pay20 k0_pay19 k0_pay18 k0_pay17 k0_pay16
  frame_out
  idx_vars y
  refine cosArr_at _ _ _ _ _ _ _ _ _ (rowX_blk V c t y0 _ ?_) (rowG_blk V c t) (pos_blk V c t y0 _ ?_) ?_
  all_goals blk_simp [idx0 t]

/-- A block's sine table, from its reads of the arrays. -/
theorem sinArr_at (X : Vec Ideal S16384x8192 .bf16) (G : Vec Ideal S1x8192 .f32) (P : Vec Ideal S16384x1 .i32)
    (j : S16384x128.Idx) (x : Vec Ideal S256x8192 .bf16) (g : Vec Ideal S1x8192 .f32) (p : Vec Ideal S256x1 .i32)
    (r : Fin 256) (l : Fin 128) (hx : rowX x r = actRow X (j 0)) (hg : rowG g = rowG G) (hp : p (ix2 r 0) = P (ix2 (j 0) 0))
    (hl : (j 1).val = l.val) :
    k0_pay2 (F := Ideal) (k0_pay9 (k0_pay4 x g) (k0_pay6 x g) (k0_pay7 x g) 126#32) (k0_pay12 p) k0_pay13 k0_pay14 k0_pay15 (ix2 r l)
      = sinArr X G P j := by
  rw [pay2_apply, pay9_apply, pay12_apply, pay14_apply, pay15_apply, neg_one, hx, hg, hp, sinArr, hl]

/-- The signed sine table after the stage. -/
theorem arr6 (c : Dev nD) : (dat0 V c).arrAt 6 cfg0.N = sinArr (V c main_v0) (V c main_v1) (V c main_v2) := by
  refine (dat0 V c).arrAt_eq_of_covers 6 _ (by decide +kernel) fun t hf y => ?_
  blk_simp
  rw [after0_6]
  unfold out0_6 k0_pay20 k0_pay19 k0_pay18 k0_pay17 k0_pay16
  frame_out
  idx_vars y
  refine sinArr_at _ _ _ _ _ _ _ _ _ (rowX_blk V c t y0 _ ?_) (rowG_blk V c t) (pos_blk V c t y0 _ ?_) ?_
  all_goals blk_simp [idx0 t]

end Cert.KernelIdeal.Gen
-- ==== Proof.ProjBlock.lean ====
/- One block of the kernel's projection stages: what the bodies compute of a block of 1024 rows by 1024 columns (8 heads),
   read at an index. The stages for the first two projections rotate each head; the third only scales it. -/
module
public import proofs.«01_k».proof.Proof.Gen.KernelIdeal.Frame
public import Idealize.ShloMosaic.Lib.Pipeline.ValueKit
public import Idealize.ShloMosaic.Lib.Pointwise
@[expose] public section
set_option maxRecDepth 16384
noncomputable section
namespace Cert.KernelIdeal.Gen
open Idealize.ShloMosaic Idealize.ShloMosaic.TcCoe Idealize.SL.Sem
open Idealize.ShloMosaic.Pipeline (Dat)

/-- One entry of a rotated head: lane `l` of head `h` of row `r`, its own value times the cosine table's plus the value 64
    lanes away times the sine table's. -/
def head (v : Vec Ideal S1024x1024 .f32) (C S : Vec Ideal S1024x128 .f32) (r : Fin 1024) (h : Fin 8) (l : Fin 128) : EReal :=
  v (ix2 r ⟨128 * h.val + l.val, by omega⟩) * C (ix2 r l)
    + v (ix2 r ⟨128 * h.val + (l.val + 64) % 128, by omega⟩) * S (ix2 r l)

/-- The weighted product of a block of codes with a block of weights, each column times its weight scale. -/
theorem k1_pay4_apply (x : Vec Ideal S1024x8192 .fp8e4m3) (w : Vec Ideal S8192x1024 .fp8e4m3) (s : Vec Ideal S1x1024 .f32)
    (r : Fin 1024) (n : Fin 1024) :
    k1_pay4 (F := Ideal) x w s (ix2 r n) = (∑ k : Fin 8192, x (ix2 r k) * w (ix2 k n)) * s (ix2 0 n) := by
  pointwise [k1_pay4]

/-- The store of heads 4 and 5. -/
theorem k1_pay2_apply (v : Vec Ideal S1024x1024 .f32) (C S : Vec Ideal S1024x128 .f32) (r : Fin 1024) (e : Fin 2) (l : Fin 128) :
    k1_pay2 (F := Ideal) v C S (ix3 r e l) = head v C S r ⟨4 + e.val, by omega⟩ l := by
  pointwise [k1_pay2, head]
  blk_point []

/-- The store of heads 6 and 7. -/
theorem k1_pay3_apply (v : Vec Ideal S1024x1024 .f32) (C S : Vec Ideal S1024x128 .f32) (r : Fin 1024) (e : Fin 2) (l : Fin 128) :
    k1_pay3 (F := Ideal) v C S (ix3 r e l) = head v C S r ⟨6 + e.val, by omega⟩ l := by
  pointwise [k1_pay3, head]
  blk_point []

/-- The store of heads 0 and 1. -/
theorem k1_pay7_apply (x : Vec Ideal S1024x8192 .fp8e4m3) (w : Vec Ideal S8192x1024 .fp8e4m3) (s : Vec Ideal S1x1024 .f32)
    (C S : Vec Ideal S1024x128 .f32) (r : Fin 1024) (e : Fin 2) (l : Fin 128) :
    k1_pay7 (F := Ideal) x w s C S (ix3 r e l) = head (k1_pay4 x w s) C S r ⟨0 + e.val, by omega⟩ l := by
  unfold k1_pay7
  generalize k1_pay4 (F := Ideal) x w s = v
  pointwise [k1_pay5, k1_pay6, head]
  blk_point []

/-- The store of heads 2 and 3. -/
theorem k1_pay1_apply (x : Vec Ideal S1024x8192 .fp8e4m3) (w : Vec Ideal S8192x1024 .fp8e4m3) (s : Vec Ideal S1x1024 .f32)
    (C S : Vec Ideal S1024x128 .f32) (r : Fin 1024) (e : Fin 2) (l : Fin 128) :
    k1_pay1 (F := Ideal) (k1_pay8 x w s C S) (k1_pay9 x w s C S) (ix3 r e l) = head (k1_pay4 x w s) C S r ⟨2 + e.val, by omega⟩ l := by
  unfold k1_pay1 k1_pay8 k1_pay9
  generalize k1_pay4 (F := Ideal) x w s = v
  pointwise [k1_pay5, k1_pay6, head]
  blk_point []

/-- What the body leaves in the stage's buffer: each head rotated. -/
theorem point1 (x0 : Vec Ideal S1024x8192 .fp8e4m3) (x1 : Vec Ideal S8192x1024 .fp8e4m3) (x2 : Vec Ideal S1x1024 .f32)
    (x3 x4 : Vec Ideal S1024x128 .f32) (y : S1024x8x128.Idx) :
    out1_5 (F := Ideal) x0 x1 x2 x3 x4 y = head (k1_pay4 x0 x1 x2) x3 x4 (y 0) (y 1) (y 2) := by
  have e0 : View.ld x0 r1_0 = x0 := by frame_out
  have e1 : View.ld x1 r1_1 = x1 := by frame_out
  have e2 : View.ld x2 r1_2 = x2 := by frame_out
  have e3 : View.ld x3 r1_3 = x3 := by frame_out
  have e4 : View.ld x4 r1_3 = x4 := by frame_out
  have e5 : k1_pay5 (F := Ideal) x3 = x3 := by funext i; pointwise [k1_pay5]
  have e6 : k1_pay6 (F := Ideal) x4 = x4 := by funext i; pointwise [k1_pay6]
  unfold out1_5 k1_pay12 k1_pay11 k1_pay10
  rw [e0, e1, e2, e3, e4, e5, e6]
  canon_tiles x h
  · idx_vars x
    refine (k1_pay3_apply _ _ _ _ _ _).trans ?_
    congr 1 <;> apply Fin.ext <;> simp_all
  · idx_vars x
    refine (k1_pay2_apply _ _ _ _ _ _).trans ?_
    congr 1 <;> apply Fin.ext <;> simp_all
  · idx_vars x
    refine (k1_pay1_apply _ _ _ _ _ _ _ _).trans ?_
    congr 1 <;> apply Fin.ext <;> simp_all
  · idx_vars x
    refine (k1_pay7_apply _ _ _ _ _ _ _ _).trans ?_
    congr 1 <;> apply Fin.ext <;> simp_all

/-- The weighted product of a block of codes with a block of weights, each column times its weight scale. -/
theorem k2_pay4_apply (x : Vec Ideal S1024x8192 .fp8e4m3) (w : Vec Ideal S8192x1024 .fp8e4m3) (s : Vec Ideal S1x1024 .f32)
    (r : Fin 1024) (n : Fin 1024) :
    k2_pay4 (F := Ideal) x w s (ix2 r n) = (∑ k : Fin 8192, x (ix2 r k) * w (ix2 k n)) * s (ix2 0 n) := by
  pointwise [k2_pay4]

/-- The store of heads 4 and 5. -/
theorem k2_pay2_apply (v : Vec Ideal S1024x1024 .f32) (C S : Vec Ideal S1024x128 .f32) (r : Fin 1024) (e : Fin 2) (l : Fin 128) :
    k2_pay2 (F := Ideal) v C S (ix3 r e l) = head v C S r ⟨4 + e.val, by omega⟩ l := by
  pointwise [k2_pay2, head]
  blk_point []

/-- The store of heads 6 and 7. -/
theorem k2_pay3_apply (v : Vec Ideal S1024x1024 .f32) (C S : Vec Ideal S1024x128 .f32) (r : Fin 1024) (e : Fin 2) (l : Fin 128) :
    k2_pay3 (F := Ideal) v C S (ix3 r e l) = head v C S r ⟨6 + e.val, by omega⟩ l := by
  pointwise [k2_pay3, head]
  blk_point []

/-- The store of heads 0 and 1. -/
theorem k2_pay7_apply (x : Vec Ideal S1024x8192 .fp8e4m3) (w : Vec Ideal S8192x1024 .fp8e4m3) (s : Vec Ideal S1x1024 .f32)
    (C S : Vec Ideal S1024x128 .f32) (r : Fin 1024) (e : Fin 2) (l : Fin 128) :
    k2_pay7 (F := Ideal) x w s C S (ix3 r e l) = head (k2_pay4 x w s) C S r ⟨0 + e.val, by omega⟩ l := by
  unfold k2_pay7
  generalize k2_pay4 (F := Ideal) x w s = v
  pointwise [k2_pay5, k2_pay6, head]
  blk_point []

/-- The store of heads 2 and 3. -/
theorem k2_pay1_apply (x : Vec Ideal S1024x8192 .fp8e4m3) (w : Vec Ideal S8192x1024 .fp8e4m3) (s : Vec Ideal S1x1024 .f32)
    (C S : Vec Ideal S1024x128 .f32) (r : Fin 1024) (e : Fin 2) (l : Fin 128) :
    k2_pay1 (F := Ideal) (k2_pay8 x w s C S) (k2_pay9 x w s C S) (ix3 r e l) = head (k2_pay4 x w s) C S r ⟨2 + e.val, by omega⟩ l := by
  unfold k2_pay1 k2_pay8 k2_pay9
  generalize k2_pay4 (F := Ideal) x w s = v
  pointwise [k2_pay5, k2_pay6, head]
  blk_point []

/-- What the body leaves in the stage's buffer: each head rotated. -/
theorem point2 (x0 : Vec Ideal S1024x8192 .fp8e4m3) (x1 : Vec Ideal S8192x1024 .fp8e4m3) (x2 : Vec Ideal S1x1024 .f32)
    (x3 x4 : Vec Ideal S1024x128 .f32) (y : S1024x8x128.Idx) :
    out2_5 (F := Ideal) x0 x1 x2 x3 x4 y = head (k2_pay4 x0 x1 x2) x3 x4 (y 0) (y 1) (y 2) := by
  have e0 : View.ld x0 r2_0 = x0 := by frame_out
  have e1 : View.ld x1 r2_1 = x1 := by frame_out
  have e2 : View.ld x2 r2_2 = x2 := by frame_out
  have e3 : View.ld x3 r2_3 = x3 := by frame_out
  have e4 : View.ld x4 r2_3 = x4 := by frame_out
  have e5 : k2_pay5 (F := Ideal) x3 = x3 := by funext i; pointwise [k2_pay5]
  have e6 : k2_pay6 (F := Ideal) x4 = x4 := by funext i; pointwise [k2_pay6]
  unfold out2_5 k2_pay12 k2_pay11 k2_pay10
  rw [e0, e1, e2, e3, e4, e5, e6]
  canon_tiles x h
  · idx_vars x
    refine (k2_pay3_apply _ _ _ _ _ _).trans ?_
    congr 1 <;> apply Fin.ext <;> simp_all
  · idx_vars x
    refine (k2_pay2_apply _ _ _ _ _ _).trans ?_
    congr 1 <;> apply Fin.ext <;> simp_all
  · idx_vars x
    refine (k2_pay1_apply _ _ _ _ _ _ _ _).trans ?_
    congr 1 <;> apply Fin.ext <;> simp_all
  · idx_vars x
    refine (k2_pay7_apply _ _ _ _ _ _ _ _).trans ?_
    congr 1 <;> apply Fin.ext <;> simp_all

/-- One entry of a plain head: its value times the table's. -/
def plain (v : Vec Ideal S1024x1024 .f32) (C : Vec Ideal S1024x128 .f32) (r : Fin 1024) (h : Fin 8) (l : Fin 128) : EReal :=
  v (ix2 r ⟨128 * h.val + l.val, by omega⟩) * C (ix2 r l)

/-- The weighted product of a block of codes with a block of weights, each column times its weight scale. -/
theorem k3_pay2_apply (x : Vec Ideal S1024x8192 .fp8e4m3) (w : Vec Ideal S8192x1024 .fp8e4m3) (s : Vec Ideal S1x1024 .f32)
    (r : Fin 1024) (n : Fin 1024) :
    k3_pay2 (F := Ideal) x w s (ix2 r n) = (∑ k : Fin 8192, x (ix2 r k) * w (ix2 k n)) * s (ix2 0 n) := by
  pointwise [k3_pay2]

/-- The store of heads 6 and 7. -/
theorem k3_pay1_apply (v : Vec Ideal S1024x1024 .f32) (C : Vec Ideal S1024x128 .f32) (r : Fin 1024) (e : Fin 2) (l : Fin 128) :
    k3_pay1 (F := Ideal) v C (ix3 r e l) = plain v C r ⟨6 + e.val, by omega⟩ l := by
  pointwise [k3_pay1, plain]
  blk_point []

/-- The store of heads 0 and 1. -/
theorem k3_pay4_apply (x : Vec Ideal S1024x8192 .fp8e4m3) (w : Vec Ideal S8192x1024 .fp8e4m3) (s : Vec Ideal S1x1024 .f32)
    (C : Vec Ideal S1024x128 .f32) (r : Fin 1024) (e : Fin 2) (l : Fin 128) :
    k3_pay4 (F := Ideal) x w s C (ix3 r e l) = plain (k3_pay2 x w s) C r ⟨0 + e.val, by omega⟩ l := by
  unfold k3_pay4
  generalize k3_pay2 (F := Ideal) x w s = v
  pointwise [k3_pay3, plain]
  blk_point []

/-- The store of heads 2 and 3. -/
theorem k3_pay5_apply (x : Vec Ideal S1024x8192 .fp8e4m3) (w : Vec Ideal S8192x1024 .fp8e4m3) (s : Vec Ideal S1x1024 .f32)
    (C : Vec Ideal S1024x128 .f32) (r : Fin 1024) (e : Fin 2) (l : Fin 128) :
    k3_pay5 (F := Ideal) x w s C (ix3 r e l) = plain (k3_pay2 x w s) C r ⟨2 + e.val, by omega⟩ l := by
  unfold k3_pay5
  generalize k3_pay2 (F := Ideal) x w s = v
  pointwise [k3_pay3, plain]
  blk_point []

/-- The store of heads 4 and 5. -/
theorem k3_pay6_apply (x : Vec Ideal S1024x8192 .fp8e4m3) (w : Vec Ideal S8192x1024 .fp8e4m3) (s : Vec Ideal S1x1024 .f32)
    (C : Vec Ideal S1024x128 .f32) (r : Fin 1024) (e : Fin 2) (l : Fin 128) :
    k3_pay6 (F := Ideal) x w s C (ix3 r e l) = plain (k3_pay2 x w s) C r ⟨4 + e.val, by omega⟩ l := by
  unfold k3_pay6
  generalize k3_pay2 (F := Ideal) x w s = v
  pointwise [k3_pay3, plain]
  blk_point []

/-- What the body leaves in the stage's buffer: each head times the table. -/
theorem point3 (x0 : Vec Ideal S1024x8192 .fp8e4m3) (x1 : Vec Ideal S8192x1024 .fp8e4m3) (x2 : Vec Ideal S1x1024 .f32)
    (x3 x4 : Vec Ideal S1024x128 .f32) (y : S1024x8x128.Idx) :
    out3_5 (F := Ideal) x0 x1 x2 x3 x4 y = plain (k3_pay2 x0 x1 x2) x3 (y 0) (y 1) (y 2) := by
  have e0 : View.ld x0 r3_0 = x0 := by frame_out
  have e1 : View.ld x1 r3_1 = x1 := by frame_out
  have e2 : View.ld x2 r3_2 = x2 := by frame_out
  have e3 : View.ld x3 r3_3 = x3 := by frame_out
  have e5 : k3_pay3 (F := Ideal) x3 = x3 := by funext i; pointwise [k3_pay3]
  unfold out3_5
  rw [e0, e1, e2, e3, e5]
  canon_tiles x h
  · idx_vars x
    refine (k3_pay1_apply _ _ _ _ _).trans ?_
    congr 1 <;> apply Fin.ext <;> simp_all
  · idx_vars x
    refine (k3_pay6_apply _ _ _ _ _ _ _).trans ?_
    congr 1 <;> apply Fin.ext <;> simp_all
  · idx_vars x
    refine (k3_pay5_apply _ _ _ _ _ _ _).trans ?_
    congr 1 <;> apply Fin.ext <;> simp_all
  · idx_vars x
    refine (k3_pay4_apply _ _ _ _ _ _ _).trans ?_
    congr 1 <;> apply Fin.ext <;> simp_all

end Cert.KernelIdeal.Gen
-- ==== Proof.Results.lean ====
/- What the three projections of one token hold, over the extended reals: the functions both programs' results are read
   as. No program is mentioned here. -/
module

public import proofs.«01_k».proof.Proof.Rows

@[expose] public section

noncomputable section

namespace Cert.Rows

open Idealize.ShloMosaic

/-- The column of the weights that lane `l` of head `h` of projection `o` comes from. -/
def colOf (o : Fin 3) (h : Fin 32) (l : Fin 128) : Fin 12288 := ⟨4096 * o.val + 128 * h.val + l.val, by omega⟩

/-- The lane a rotation pairs lane `l` with, 64 lanes away. -/
def partner (l : Fin 128) : Fin 128 := ⟨(l.val + 64) % 128, by omega⟩

/-- One product of a token: its codes against column `n` of the weights, times the token's scale, times the column's. -/
def product (X G : Fin 8192 → EReal) (W : Fin 8192 → Fin 12288 → EReal) (U : Fin 12288 → EReal) (n : Fin 12288) : EReal :=
  dot X G (fun k => W k n) * scale X G * U n

/-- One lane of a rotated head: the lower half of the lanes takes `t₁ cos - t₂ sin`, the upper half `t₂ cos + t₁ sin`. -/
def rotated (X G : Fin 8192 → EReal) (W : Fin 8192 → Fin 12288 → EReal) (U : Fin 12288 → EReal) (p : BitVec 32) (o : Fin 3)
    (h : Fin 32) (l : Fin 128) : EReal :=
  if l.val < 64 then
    product X G W U (colOf o h l) * Ideal.cos (angle p (l.val % 64))
      - product X G W U (colOf o h (partner l)) * Ideal.sin (angle p (l.val % 64))
  else
    product X G W U (colOf o h l) * Ideal.cos (angle p (l.val % 64))
      + product X G W U (colOf o h (partner l)) * Ideal.sin (angle p (l.val % 64))

/-- The rotation with the weight scale applied to the products, and the token's scale and the sign folded into the tables. -/
theorem rotated_eq (X G : Fin 8192 → EReal) (W : Fin 8192 → Fin 12288 → EReal) (U : Fin 12288 → EReal) (p : BitVec 32) (o : Fin 3)
    (h : Fin 32) (l : Fin 128) :
    dot X G (fun k => W k (colOf o h l)) * U (colOf o h l) * (Ideal.cos (angle p (l.val % 64)) * scale X G)
      + dot X G (fun k => W k (colOf o h (partner l))) * U (colOf o h (partner l))
        * (Ideal.sin (angle p (l.val % 64)) * (if l.val < 64 then -1 else 1) * scale X G)
      = rotated X G W U p o h l := by
  unfold rotated product
  generalize dot X G (fun k => W k (colOf o h l)) = a
  generalize dot X G (fun k => W k (colOf o h (partner l))) = b
  generalize U (colOf o h l) = u
  generalize U (colOf o h (partner l)) = v
  generalize Ideal.cos (angle p (l.val % 64)) = c
  generalize Ideal.sin (angle p (l.val % 64)) = s
  generalize scale X G = t
  have e : a * u * (c * t) = a * t * u * c := by ac_rfl
  have e' : b * v * (s * t) = b * t * v * s := by ac_rfl
  split_ifs
  · rw [e, mul_neg, mul_one, neg_mul, mul_neg, e', sub_eq_add_neg]
  · rw [e, mul_one, e']

/-- The same for a projection that is not rotated. -/
theorem product_eq (X G : Fin 8192 → EReal) (W : Fin 8192 → Fin 12288 → EReal) (U : Fin 12288 → EReal) (n : Fin 12288) :
    dot X G (fun k => W k n) * U n * scale X G = product X G W U n := by
  unfold product
  generalize dot X G (fun k => W k n) = a
  generalize scale X G = t
  generalize U n = u
  exact mul_right_comm a u t

end Cert.Rows
-- ==== Proof.ProjArrays.lean ====
/- The arrays the kernel's three projection stages leave, as functions of the arrays they read. -/
module

public import proofs.«01_k».proof.Proof.Gen.KernelIdeal.Frame
public import proofs.«01_k».proof.Proof.ProjBlock
public import proofs.«01_k».proof.Proof.Results
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem Cert.Rows
open Idealize.ShloMosaic.Pipeline (Dat)

variable (V : (c : Dev nD) → (b : Ref sig .tc) → Buf (Elt Ideal) ((c : Thread nD τ).loc b))

/-- One entry of the weighted products of all rows: row `r` of the codes against column `n` of the weights, times the
    column's scale. -/
def weighted (D : Vec Ideal S16384x8192 .fp8e4m3) (W : Vec Ideal S8192x12288 .fp8e4m3) (U : Vec Ideal S1x12288 .f32)
    (r : Fin 16384) (n : Fin 12288) : EReal :=
  (∑ k : Fin 8192, D (ix2 r k) * W (ix2 k n)) * U (ix2 0 n)

/-- Projection `o` of all rows, each head rotated with the two tables. -/
def turnArr (D : Vec Ideal S16384x8192 .fp8e4m3) (W : Vec Ideal S8192x12288 .fp8e4m3) (U : Vec Ideal S1x12288 .f32)
    (C S : Vec Ideal S16384x128 .f32) (o : Fin 3) : Vec Ideal S16384x32x128 .bf16 := fun j =>
  weighted D W U (j 0) (colOf o (j 1) (j 2)) * C (ix2 (j 0) (j 2))
    + weighted D W U (j 0) (colOf o (j 1) (partner (j 2))) * S (ix2 (j 0) (j 2))

/-- Projection `o` of all rows, each head times one table. -/
def plainArr (D : Vec Ideal S16384x8192 .fp8e4m3) (W : Vec Ideal S8192x12288 .fp8e4m3) (U : Vec Ideal S1x12288 .f32)
    (C : Vec Ideal S16384x128 .f32) (o : Fin 3) : Vec Ideal S16384x32x128 .bf16 := fun j =>
  weighted D W U (j 0) (colOf o (j 1) (j 2)) * C (ix2 (j 0) (j 2))

/-- Each window's block at point `t` of stage 1. -/
theorem idx1 : ∀ t : Fin cfg1.N, win1_0.index t = ![t.val / 4, 0] ∧ win1_1.index t = ![0, 0 + t.val % 4]
    ∧ win1_2.index t = ![0, 0 + t.val % 4] ∧ win1_3.index t = ![t.val / 4, 0] ∧ win1_4.index t = ![t.val / 4, 0]
    ∧ win1_5.index t = ![t.val / 4, t.val % 4, 0] :=
  (by decide +kernel : ∀ t : Fin grid1.N, _)

/-- An entry of a block of the weighted products is the entry of the whole at its place. -/
theorem weighted_blk1 (c : Dev nD) (t : Fin cfg1.N) (r : Fin 1024) (n : Fin 1024) (R : Fin 16384) (N : Fin 12288)
    (hR : R.val = t.val / 4 * 1024 + r.val) (hN : N.val = (0 + t.val % 4) * 1024 + n.val) :
    k1_pay4 (F := Ideal) (iblk1 V c 0 t) (iblk1 V c 1 t) (iblk1 V c 2 t) (ix2 r n)
      = weighted (V c main_v3_0) (V c main_arg2) (V c main_v4) R N := by
  refine (k1_pay4_apply _ _ _ _ _).trans ?_
  unfold weighted
  blk_point [iblk1, idx1 t]

/-- A table's block at its place. -/
theorem table3_blk1 (c : Dev nD) (t : Fin cfg1.N) (r : Fin 1024) (l : Fin 128) (R : Fin 16384) (L : Fin 128)
    (hR : R.val = t.val / 4 * 1024 + r.val) (hL : L.val = l.val) :
    (iblk1 V c 3 t : Vec Ideal S1024x128 .f32) (ix2 r l) = (V c main_v3_2 : Vec Ideal S16384x128 .f32) (ix2 R L) := by
  blk_ext [iblk1, idx1 t]

/-- The same for the other table. -/
theorem table4_blk1 (c : Dev nD) (t : Fin cfg1.N) (r : Fin 1024) (l : Fin 128) (R : Fin 16384) (L : Fin 128)
    (hR : R.val = t.val / 4 * 1024 + r.val) (hL : L.val = l.val) :
    (iblk1 V c 4 t : Vec Ideal S1024x128 .f32) (ix2 r l) = (V c main_v3_3 : Vec Ideal S16384x128 .f32) (ix2 R L) := by
  blk_ext [iblk1, idx1 t]

/-- The array of the stage after its run: the projection with its heads rotated. -/
theorem turn1 (c : Dev nD) : (dat1 V c).arrAt 5 cfg1.N
    = turnArr (V c main_v3_0) (V c main_arg2) (V c main_v4) (V c main_v3_2) (V c main_v3_3) 0 := by
  refine (dat1 V c).arrAt_eq_of_covers 5 _ (by decide +kernel) fun t hf y => ?_
  blk_simp
  rw [after1_5]
  refine (point1 _ _ _ _ _ _).trans ?_
  idx_vars y
  unfold head turnArr
  refine congrArg₂ (· + ·) (congrArg₂ (· * ·) (weighted_blk1 V c t _ _ _ _ ?_ ?_) (table3_blk1 V c t _ _ _ _ ?_ ?_))
    (congrArg₂ (· * ·) (weighted_blk1 V c t _ _ _ _ ?_ ?_) (table4_blk1 V c t _ _ _ _ ?_ ?_))
  all_goals (try unfold colOf)
  all_goals (try unfold partner)
  all_goals (blk_simp [idx1 t] <;> try (simp <;> omega))

/-- Each window's block at point `t` of stage 2. -/
theorem idx2 : ∀ t : Fin cfg2.N, win2_0.index t = ![t.val / 4, 0] ∧ win2_1.index t = ![0, 4 + t.val % 4]
    ∧ win2_2.index t = ![0, 4 + t.val % 4] ∧ win2_3.index t = ![t.val / 4, 0] ∧ win2_4.index t = ![t.val / 4, 0]
    ∧ win2_5.index t = ![t.val / 4, t.val % 4, 0] :=
  (by decide +kernel : ∀ t : Fin grid2.N, _)

/-- An entry of a block of the weighted products is the entry of the whole at its place. -/
theorem weighted_blk2 (c : Dev nD) (t : Fin cfg2.N) (r : Fin 1024) (n : Fin 1024) (R : Fin 16384) (N : Fin 12288)
    (hR : R.val = t.val / 4 * 1024 + r.val) (hN : N.val = (4 + t.val % 4) * 1024 + n.val) :
    k2_pay4 (F := Ideal) (iblk2 V c 0 t) (iblk2 V c 1 t) (iblk2 V c 2 t) (ix2 r n)
      = weighted (V c main_v3_0) (V c main_arg2) (V c main_v4) R N := by
  refine (k2_pay4_apply _ _ _ _ _).trans ?_
  unfold weighted
  blk_point [iblk2, idx2 t]

/-- A table's block at its place. -/
theorem table3_blk2 (c : Dev nD) (t : Fin cfg2.N) (r : Fin 1024) (l : Fin 128) (R : Fin 16384) (L : Fin 128)
    (hR : R.val = t.val / 4 * 1024 + r.val) (hL : L.val = l.val) :
    (iblk2 V c 3 t : Vec Ideal S1024x128 .f32) (ix2 r l) = (V c main_v3_2 : Vec Ideal S16384x128 .f32) (ix2 R L) := by
  blk_ext [iblk2, idx2 t]

/-- The same for the other table. -/
theorem table4_blk2 (c : Dev nD) (t : Fin cfg2.N) (r : Fin 1024) (l : Fin 128) (R : Fin 16384) (L : Fin 128)
    (hR : R.val = t.val / 4 * 1024 + r.val) (hL : L.val = l.val) :
    (iblk2 V c 4 t : Vec Ideal S1024x128 .f32) (ix2 r l) = (V c main_v3_3 : Vec Ideal S16384x128 .f32) (ix2 R L) := by
  blk_ext [iblk2, idx2 t]

/-- The array of the stage after its run: the projection with its heads rotated. -/
theorem turn2 (c : Dev nD) : (dat2 V c).arrAt 5 cfg2.N
    = turnArr (V c main_v3_0) (V c main_arg2) (V c main_v4) (V c main_v3_2) (V c main_v3_3) 1 := by
  refine (dat2 V c).arrAt_eq_of_covers 5 _ (by decide +kernel) fun t hf y => ?_
  blk_simp
  rw [after2_5]
  refine (point2 _ _ _ _ _ _).trans ?_
  idx_vars y
  unfold head turnArr
  refine congrArg₂ (· + ·) (congrArg₂ (· * ·) (weighted_blk2 V c t _ _ _ _ ?_ ?_) (table3_blk2 V c t _ _ _ _ ?_ ?_))
    (congrArg₂ (· * ·) (weighted_blk2 V c t _ _ _ _ ?_ ?_) (table4_blk2 V c t _ _ _ _ ?_ ?_))
  all_goals (try unfold colOf)
  all_goals (try unfold partner)
  all_goals (blk_simp [idx2 t] <;> try (simp <;> omega))

/-- Each window's block at point `t` of stage 3. -/
theorem idx3 : ∀ t : Fin cfg3.N, win3_0.index t = ![t.val / 4, 0] ∧ win3_1.index t = ![0, 8 + t.val % 4]
    ∧ win3_2.index t = ![0, 8 + t.val % 4] ∧ win3_3.index t = ![t.val / 4, 0] ∧ win3_4.index t = ![t.val / 4, 0]
    ∧ win3_5.index t = ![t.val / 4, t.val % 4, 0] :=
  (by decide +kernel : ∀ t : Fin grid3.N, _)

/-- An entry of a block of the weighted products is the entry of the whole at its place. -/
theorem weighted_blk3 (c : Dev nD) (t : Fin cfg3.N) (r : Fin 1024) (n : Fin 1024) (R : Fin 16384) (N : Fin 12288)
    (hR : R.val = t.val / 4 * 1024 + r.val) (hN : N.val = (8 + t.val % 4) * 1024 + n.val) :
    k3_pay2 (F := Ideal) (iblk3 V c 0 t) (iblk3 V c 1 t) (iblk3 V c 2 t) (ix2 r n)
      = weighted (V c main_v3_0) (V c main_arg2) (V c main_v4) R N := by
  refine (k3_pay2_apply _ _ _ _ _).trans ?_
  unfold weighted
  blk_point [iblk3, idx3 t]

/-- A table's block at its place. -/
theorem table3_blk3 (c : Dev nD) (t : Fin cfg3.N) (r : Fin 1024) (l : Fin 128) (R : Fin 16384) (L : Fin 128)
    (hR : R.val = t.val / 4 * 1024 + r.val) (hL : L.val = l.val) :
    (iblk3 V c 3 t : Vec Ideal S1024x128 .f32) (ix2 r l) = (V c main_v5 : Vec Ideal S16384x128 .f32) (ix2 R L) := by
  blk_ext [iblk3, idx3 t]

/-- The array of the stage after its run: the projection, each head times the table. -/
theorem plain3 (c : Dev nD) : (dat3 V c).arrAt 5 cfg3.N
    = plainArr (V c main_v3_0) (V c main_arg2) (V c main_v4) (V c main_v5) 2 := by
  refine (dat3 V c).arrAt_eq_of_covers 5 _ (by decide +kernel) fun t hf y => ?_
  blk_simp
  rw [after3_5]
  refine (point3 _ _ _ _ _ _).trans ?_
  idx_vars y
  unfold plain plainArr
  refine congrArg₂ (· * ·) (weighted_blk3 V c t _ _ _ _ ?_ ?_) (table3_blk3 V c t _ _ _ _ ?_ ?_)
  all_goals (try unfold colOf)
  all_goals (blk_simp [idx3 t] <;> try (simp <;> omega))

end Cert.KernelIdeal.Gen
-- ==== Proof.Fold.lean ====
/- The run of the kernel followed from stage to stage: what each array a stage reads or leaves holds, as a function of
   the arrays before it. -/
module

public import proofs.«01_k».proof.Proof.QuantArrays
public import proofs.«01_k».proof.Proof.ProjArrays
public import Idealize.ShloMosaic.Lib.Claim

@[expose] public section

set_option maxRecDepth 16384

noncomputable section

namespace Cert.KernelIdeal.Gen

open Idealize.ShloMosaic Idealize.ShloMosaic.TcCoe Idealize.SL.Sem Cert.Rows
open Idealize.ShloMosaic.Pipeline (Dat)

variable (m : (ℓ : Loc nD τ sig) → Buf (Elt Ideal) ℓ) (ρ : Dev nD → PrngReg)

/-- The activations, one row per token. -/
theorem V1_rows (c : Dev nD) : (V1 m ρ c main_v0 : Vec Ideal S16384x8192 .bf16)
    = shapeCast S16384x8192 (m ((c : Thread nD τ).loc main_arg0) : Vec Ideal S4x4096x8192 .bf16) shapeCasts_S4x4096x8192_S16384x8192 := by
  unfold V1 W1
  entry_read
  rfl

/-- The gain, as a row. -/
theorem V1_gain (c : Dev nD) : (V1 m ρ c main_v1 : Vec Ideal S1x8192 .f32)
    = shapeCast S1x8192 (m ((c : Thread nD τ).loc main_arg1) : Vec Ideal S8192 .f32) shapeCasts_S8192_S1x8192 := by
  unfold V1 W1
  entry_read
  rfl

/-- The positions, as a column. -/
theorem V1_pos (c : Dev nD) : (V1 m ρ c main_v2 : Vec Ideal S16384x1 .i32)
    = shapeCast S16384x1 (m ((c : Thread nD τ).loc main_arg4) : Vec Ideal S4x4096 .i32) shapeCasts_S4x4096_S16384x1 := by
  unfold V1 W1
  entry_read
  rfl

/-- The codes, when the projections start. -/
theorem V3_codes (c : Dev nD) : V3 m ρ c main_v3_0 = codesArr (V1 m ρ c main_v0) (V1 m ρ c main_v1) :=
  (W3_of m ρ c main_v3_0 (by decide)).trans ((W2_arr m ρ c 3).trans (arr3 (V1 m ρ) c))

/-- The scales. -/
theorem V3_scale (c : Dev nD) : V3 m ρ c main_v3_1 = scaleArr (V1 m ρ c main_v0) (V1 m ρ c main_v1) :=
  (W3_of m ρ c main_v3_1 (by decide)).trans ((W2_arr m ρ c 4).trans (arr4 (V1 m ρ) c))

/-- The cosine table. -/
theorem V3_cos (c : Dev nD) : V3 m ρ c main_v3_2 = cosArr (V1 m ρ c main_v0) (V1 m ρ c main_v1) (V1 m ρ c main_v2) :=
  (W3_of m ρ c main_v3_2 (by decide)).trans ((W2_arr m ρ c 5).trans (arr5 (V1 m ρ) c))

/-- The signed sine table. -/
theorem V3_sin (c : Dev nD) : V3 m ρ c main_v3_3 = sinArr (V1 m ρ c main_v0) (V1 m ρ c main_v1) (V1 m ρ c main_v2) :=
  (W3_of m ρ c main_v3_3 (by decide)).trans ((W2_arr m ρ c 6).trans (arr6 (V1 m ρ) c))

/-- The weights. -/
theorem V3_weights (c : Dev nD) : V3 m ρ c main_arg2 = m ((c : Thread nD τ).loc main_arg2) := W3_args m ρ c main_arg2 (by decide)

/-- The weights' scales, as a row. -/
theorem V3_wscale (c : Dev nD) : (V3 m ρ c main_v4 : Vec Ideal S1x12288 .f32)
    = shapeCast S1x12288 (m ((c : Thread nD τ).loc main_arg3) : Vec Ideal S12288 .f32) shapeCasts_S12288_S1x12288 := by
  have e : W2 m ρ c (Proc.devRef .tc main_arg3) = m ((c : Thread nD τ).loc main_arg3) := W2_args m ρ c main_arg3 (by decide)
  rw [← e]
  unfold V3 W3
  entry_read
  rfl

/-- The scales, repeated over the lanes. -/
theorem V3_lanes (c : Dev nD) : (V3 m ρ c main_v5 : Vec Ideal S16384x128 .f32)
    = broadcastInDim S16384x128 ![0, 1] bcast_S16384x1_S16384x128_0_1 (V3 m ρ c main_v3_1 : Vec Ideal S16384x1 .f32) := by
  have e : V3 m ρ c main_v3_1 = W2 m ρ c (Proc.devRef .tc main_v3_1) := W3_of m ρ c main_v3_1 (by decide)
  rw [e]
  unfold V3 W3
  entry_read
  rfl

/-- A buffer the first projection does not write. -/
theorem V4_same (c : Dev nD) (r : Ref sig .tc) (h : ∀ w : Fin cfg1.W, Pipeline.arrRef spec1 w = r → (cfg1.win w).isOut = false) :
    V4 m ρ c r = V3 m ρ c r := W4_of m ρ c r h

/-- A buffer the second projection does not write. -/
theorem V5_same (c : Dev nD) (r : Ref sig .tc) (h : ∀ w : Fin cfg2.W, Pipeline.arrRef spec2 w = r → (cfg2.win w).isOut = false) :
    V5 m ρ c r = V4 m ρ c r := W5_of m ρ c r h

/-- The first projection's array, when the run ends. -/
theorem W6_q (c : Dev nD) : W6 m ρ c (Proc.devRef .tc main_v6)
    = turnArr (V3 m ρ c main_v3_0) (V3 m ρ c main_arg2) (V3 m ρ c main_v4) (V3 m ρ c main_v3_2) (V3 m ρ c main_v3_3) 0 :=
  (W6_of m ρ c main_v6 (by decide +kernel)).trans ((W5_of m ρ c main_v6 (by decide +kernel)).trans ((W4_arr m ρ c 5).trans (turn1 (V3 m ρ) c)))

/-- The second's. -/
theorem W6_k (c : Dev nD) : W6 m ρ c (Proc.devRef .tc main_v7)
    = turnArr (V3 m ρ c main_v3_0) (V3 m ρ c main_arg2) (V3 m ρ c main_v4) (V3 m ρ c main_v3_2) (V3 m ρ c main_v3_3) 1 := by
  rw [← V4_same m ρ c main_v3_0 (by decide +kernel), ← V4_same m ρ c main_arg2 (by decide +kernel), ← V4_same m ρ c main_v4 (by decide +kernel),
    ← V4_same m ρ c main_v3_2 (by decide +kernel), ← V4_same m ρ c main_v3_3 (by decide +kernel)]
  exact (W6_of m ρ c main_v7 (by decide +kernel)).trans ((W5_arr m ρ c 5).trans (turn2 (V4 m ρ) c))

/-- The third's. -/
theorem W6_v (c : Dev nD) : W6 m ρ c (Proc.devRef .tc main_v8)
    = plainArr (V3 m ρ c main_v3_0) (V3 m ρ c main_arg2) (V3 m ρ c main_v4) (V3 m ρ c main_v5) 2 := by
  rw [← V4_same m ρ c main_v3_0 (by decide +kernel), ← V4_same m ρ c main_arg2 (by decide +kernel), ← V4_same m ρ c main_v4 (by decide +kernel),
    ← V4_same m ρ c main_v5 (by decide +kernel), ← V5_same m ρ c main_v3_0 (by decide +kernel), ← V5_same m ρ c main_arg2 (by decide +kernel),
    ← V5_same m ρ c main_v4 (by decide +kernel), ← V5_same m ρ c main_v5 (by decide +kernel)]
  exact (W6_arr m ρ c 5).trans (plain3 (V5 m ρ) c)

/-- The codes', untouched by the projections. -/
theorem W6_codes (c : Dev nD) : W6 m ρ c (Proc.devRef .tc main_v3_0) = V3 m ρ c main_v3_0 :=
  (W6_of m ρ c main_v3_0 (by decide +kernel)).trans ((W5_of m ρ c main_v3_0 (by decide +kernel)).trans (W4_of m ρ c main_v3_0 (by decide +kernel)))

/-- The scales', untouched by the projections. -/
theorem W6_scale (c : Dev nD) : W6 m ρ c (Proc.devRef .tc main_v3_1) = V3 m ρ c main_v3_1 :=
  (W6_of m ρ c main_v3_1 (by decide +kernel)).trans ((W5_of m ρ c main_v3_1 (by decide +kernel)).trans (W4_of m ρ c main_v3_1 (by decide +kernel)))

/-- The first result is the first projection's array, by token. -/
theorem W7_q (c : Dev nD) : (W7 m ρ c (Proc.devRef .tc main_v9) : Vec Ideal S4x4096x32x128 .bf16)
    = shapeCast S4x4096x32x128 (W6 m ρ c (Proc.devRef .tc main_v6) : Vec Ideal S16384x32x128 .bf16) shapeCasts_S16384x32x128_S4x4096x32x128 := by
  unfold W7
  entry_read
  rfl

/-- The second result is the second projection's array, by token. -/
theorem W7_k (c : Dev nD) : (W7 m ρ c (Proc.devRef .tc main_v10) : Vec Ideal S4x4096x32x128 .bf16)
    = shapeCast S4x4096x32x128 (W6 m ρ c (Proc.devRef .tc main_v7) : Vec Ideal S16384x32x128 .bf16) shapeCasts_S16384x32x128_S4x4096x32x128 := by
  unfold W7
  entry_read
  rfl

/-- The third result is the third projection's array, by token. -/
theorem W7_v (c : Dev nD) : (W7 m ρ c (Proc.devRef .tc main_v11) : Vec Ideal S4x4096x32x128 .bf16)
    = shapeCast S4x4096x32x128 (W6 m ρ c (Proc.devRef .tc main_v8) : Vec Ideal S16384x32x128 .bf16) shapeCasts_S16384x32x128_S4x4096x32x128 := by
  unfold W7
  entry_read
  rfl

/-- The fourth result is the array of codes, by token. -/
theorem W7_codes (c : Dev nD) : (W7 m ρ c (Proc.devRef .tc main_v12) : Vec Ideal S4x4096x8192 .fp8e4m3)
    = shapeCast S4x4096x8192 (W6 m ρ c (Proc.devRef .tc main_v3_0) : Vec Ideal S16384x8192 .fp8e4m3) shapeCasts_S16384x8192_S4x4096x8192 := by
  unfold W7
  entry_read
  rfl

/-- The fifth result is the column of scales, by token. -/
theorem W7_scale (c : Dev nD) : (W7 m ρ c (Proc.devRef .tc main_v13) : Vec Ideal S4x4096 .f32)
    = shapeCast S4x4096 (W6 m ρ c (Proc.devRef .tc main_v3_1) : Vec Ideal S16384x1 .f32) shapeCasts_S16384x1_S4x4096 := by
  unfold W7
  entry_read
  rfl

end Cert.KernelIdeal.Gen

end
-- ==== Proof.Spec.lean ====
/- The five results, as functions of the five arguments: what both programs are shown to leave. No program is mentioned
   here. -/
module

public import proofs.«01_k».proof.Proof.Results
public import Idealize.ShloMosaic.Lib.Pipeline.ValueKit

@[expose] public section

noncomputable section

namespace Cert.Rows

open Idealize.ShloMosaic

variable (x : Vec Ideal ⟨3, ![4, 4096, 8192]⟩ .bf16) (g : Vec Ideal ⟨1, ![8192]⟩ .f32) (w : Vec Ideal ⟨2, ![8192, 12288]⟩ .fp8e4m3)
  (u : Vec Ideal ⟨1, ![12288]⟩ .f32) (p : Vec Ideal ⟨2, ![4, 4096]⟩ .i32)

/-- Projection `o` of every token, its heads rotated by the token's position. -/
def rotatedRes (o : Fin 3) : Vec Ideal ⟨4, ![4, 4096, 32, 128]⟩ .bf16 := fun j =>
  rotated (fun k => x (ix3 (j 0) (j 1) k)) (fun k => g (ix1 k)) (fun k n => w (ix2 k n)) (fun n => u (ix1 n)) (p (ix2 (j 0) (j 1))) o
    (j 2) (j 3)

/-- Projection `o` of every token, not rotated. -/
def plainRes (o : Fin 3) : Vec Ideal ⟨4, ![4, 4096, 32, 128]⟩ .bf16 := fun j =>
  product (fun k => x (ix3 (j 0) (j 1) k)) (fun k => g (ix1 k)) (fun k n => w (ix2 k n)) (fun n => u (ix1 n)) (colOf o (j 2) (j 3))

/-- Every token's codes. -/
def codesRes : Vec Ideal ⟨3, ![4, 4096, 8192]⟩ .fp8e4m3 := fun j =>
  code (fun k => x (ix3 (j 0) (j 1) k)) (fun k => g (ix1 k)) (j 2)

/-- Every token's scale. -/
def scaleRes : Vec Ideal ⟨2, ![4, 4096]⟩ .f32 := fun j => scale (fun k => x (ix3 (j 0) (j 1) k)) (fun k => g (ix1 k))

end Cert.Rows

end
-- ==== Proof.Tokens.lean ====
/- The kernel's reshapes read at an index: the row of a token, and what each reshaped array holds there. -/
module

public import proofs.«01_k».proof.Proof.Fold
public import proofs.«01_k».proof.Proof.Spec
public import Idealize.ShloMosaic.Lib.Pointwise
public import Idealize.ShloMosaic.Lib.ValueLayoutCasts

@[expose] public section

set_option maxRecDepth 16384

noncomputable section

namespace Cert.KernelIdeal.Gen

open Idealize.ShloMosaic Idealize.ShloMosaic.TcCoe Idealize.SL.Sem Cert.Rows
open Idealize.ShloMosaic.Pipeline (Dat)

section
variable (x : Vec Ideal S4x4096x8192 .bf16) (g : Vec Ideal S8192 .f32) (w : Vec Ideal S8192x12288 .fp8e4m3)
  (u : Vec Ideal S12288 .f32) (p : Vec Ideal S4x4096 .i32)

/-- The row of the token `s` of sequence `b`. -/
def rowOf (b : Fin 4) (s : Fin 4096) : Fin 16384 := ⟨b.val * 4096 + s.val, by omega⟩

/-- A row of the activations is its token's. -/
theorem actRow_cast (b : Fin 4) (s : Fin 4096) :
    actRow (shapeCast S16384x8192 x shapeCasts_S4x4096x8192_S16384x8192) (rowOf b s) = fun k => x (ix3 b s k) := by
  funext k
  unfold actRow rowOf
  pointwise []

/-- The gain's row is the gain. -/
theorem rowG_cast : rowG (shapeCast S1x8192 g shapeCasts_S8192_S1x8192) = fun k => g (ix1 k) := by
  funext k
  unfold rowG
  pointwise []

/-- The weight scales' row is the weight scales. -/
theorem wscale_cast (n : Fin 12288) : (shapeCast S1x12288 u shapeCasts_S12288_S1x12288) (ix2 0 n) = u (ix1 n) := by
  pointwise []

/-- A token's position. -/
theorem pos_cast (b : Fin 4) (s : Fin 4096) :
    (shapeCast S16384x1 p shapeCasts_S4x4096_S16384x1) (ix2 (rowOf b s) 0) = p (ix2 b s) := by
  unfold rowOf
  pointwise []
end

/-- Heads by row, read by token. -/
theorem heads_cast (A : Vec Ideal S16384x32x128 .bf16) (j : S4x4096x32x128.Idx) :
    shapeCast S4x4096x32x128 A shapeCasts_S16384x32x128_S4x4096x32x128 j = A (ix3 (rowOf (j 0) (j 1)) (j 2) (j 3)) := by
  unfold rowOf
  pointwise []

/-- Codes by row, read by token. -/
theorem codes_cast (A : Vec Ideal S16384x8192 .fp8e4m3) (j : S4x4096x8192.Idx) :
    shapeCast S4x4096x8192 A shapeCasts_S16384x8192_S4x4096x8192 j = A (ix2 (rowOf (j 0) (j 1)) (j 2)) := by
  unfold rowOf
  pointwise []

/-- Scales by row, read by token. -/
theorem scale_cast (A : Vec Ideal S16384x1 .f32) (j : S4x4096.Idx) :
    shapeCast S4x4096 A shapeCasts_S16384x1_S4x4096 j = A (ix2 (rowOf (j 0) (j 1)) 0) := by
  unfold rowOf
  pointwise []

/-- The scales repeated over the lanes. -/
theorem lanes_apply (A : Vec Ideal S16384x1 .f32) (r : Fin 16384) (l : Fin 128) :
    broadcastInDim S16384x128 ![0, 1] bcast_S16384x1_S16384x128_0_1 A (ix2 r l) = A (ix2 r 0) := by
  pointwise []

end Cert.KernelIdeal.Gen

end
-- ==== Proof.KernelResults.lean ====
/- The kernel's five results as the functions of the arguments that Proof/Spec.lean names. -/
module

public import proofs.«01_k».proof.Proof.Fold
public import proofs.«01_k».proof.Proof.Tokens
public import proofs.«01_k».proof.Proof.Spec
public import Idealize.ShloMosaic.Lib.Pointwise
public import Idealize.ShloMosaic.Lib.ValueLayoutCasts

@[expose] public section

set_option maxRecDepth 16384

noncomputable section

namespace Cert.KernelIdeal.Gen

open Idealize.ShloMosaic Idealize.ShloMosaic.TcCoe Idealize.SL.Sem Cert.Rows
open Idealize.ShloMosaic.Pipeline (Dat)

variable (m : (ℓ : Loc nD τ sig) → Buf (Elt Ideal) ℓ) (ρ : Dev nD → PrngReg)

/-- The cosine table's arithmetic at an index. -/
theorem cosArr_ix (X : Vec Ideal S16384x8192 .bf16) (G : Vec Ideal S1x8192 .f32) (P : Vec Ideal S16384x1 .i32) (r : Fin 16384) (l : Fin 128) :
    cosArr X G P (ix2 r l) = Ideal.cos (angle (P (ix2 r 0)) (l.val % 64)) * scale (actRow X r) (rowG G) := rfl

/-- The sine table's. -/
theorem sinArr_ix (X : Vec Ideal S16384x8192 .bf16) (G : Vec Ideal S1x8192 .f32) (P : Vec Ideal S16384x1 .i32) (r : Fin 16384) (l : Fin 128) :
    sinArr X G P (ix2 r l) = Ideal.sin (angle (P (ix2 r 0)) (l.val % 64)) * (if l.val < 64 then -1 else 1) * scale (actRow X r) (rowG G) := rfl

/-- The codes of a row are its token's. -/
theorem codes_at (c : Dev nD) (b : Fin 4) (s : Fin 4096) (k : Fin 8192) :
    codesArr (V1 m ρ c main_v0) (V1 m ρ c main_v1) (ix2 (rowOf b s) k)
      = code (fun k => (m ((c : Thread nD τ).loc main_arg0) : Vec Ideal S4x4096x8192 .bf16) (ix3 b s k))
          (fun k => (m ((c : Thread nD τ).loc main_arg1) : Vec Ideal S8192 .f32) (ix1 k)) k := by
  rw [V1_rows, V1_gain]
  show code (actRow _ (rowOf b s)) (rowG _) k = _
  rw [actRow_cast, rowG_cast]

/-- The scale of a row is its token's. -/
theorem scale_at (c : Dev nD) (b : Fin 4) (s : Fin 4096) (z : Fin 1) :
    scaleArr (V1 m ρ c main_v0) (V1 m ρ c main_v1) (ix2 (rowOf b s) z)
      = scale (fun k => (m ((c : Thread nD τ).loc main_arg0) : Vec Ideal S4x4096x8192 .bf16) (ix3 b s k))
          (fun k => (m ((c : Thread nD τ).loc main_arg1) : Vec Ideal S8192 .f32) (ix1 k)) := by
  rw [V1_rows, V1_gain]
  show scale (actRow _ (rowOf b s)) (rowG _) = _
  rw [actRow_cast, rowG_cast]

/-- The cosine table of a row. -/
theorem cos_at (c : Dev nD) (b : Fin 4) (s : Fin 4096) (l : Fin 128) :
    cosArr (V1 m ρ c main_v0) (V1 m ρ c main_v1) (V1 m ρ c main_v2) (ix2 (rowOf b s) l)
      = Ideal.cos (angle ((m ((c : Thread nD τ).loc main_arg4) : Vec Ideal S4x4096 .i32) (ix2 b s)) (l.val % 64))
        * scale (fun k => (m ((c : Thread nD τ).loc main_arg0) : Vec Ideal S4x4096x8192 .bf16) (ix3 b s k))
          (fun k => (m ((c : Thread nD τ).loc main_arg1) : Vec Ideal S8192 .f32) (ix1 k)) := by
  rw [V1_rows, V1_gain, V1_pos, cosArr_ix]
  rw [actRow_cast, rowG_cast, pos_cast]

/-- The signed sine table of a row. -/
theorem sin_at (c : Dev nD) (b : Fin 4) (s : Fin 4096) (l : Fin 128) :
    sinArr (V1 m ρ c main_v0) (V1 m ρ c main_v1) (V1 m ρ c main_v2) (ix2 (rowOf b s) l)
      = Ideal.sin (angle ((m ((c : Thread nD τ).loc main_arg4) : Vec Ideal S4x4096 .i32) (ix2 b s)) (l.val % 64))
        * (if l.val < 64 then -1 else 1)
        * scale (fun k => (m ((c : Thread nD τ).loc main_arg0) : Vec Ideal S4x4096x8192 .bf16) (ix3 b s k))
          (fun k => (m ((c : Thread nD τ).loc main_arg1) : Vec Ideal S8192 .f32) (ix1 k)) := by
  rw [V1_rows, V1_gain, V1_pos, sinArr_ix]
  rw [actRow_cast, rowG_cast, pos_cast]

/-- The weighted products of a token's codes. -/
theorem weighted_at (c : Dev nD) (b : Fin 4) (s : Fin 4096) (n : Fin 12288) :
    weighted (V3 m ρ c main_v3_0) (V3 m ρ c main_arg2) (V3 m ρ c main_v4) (rowOf b s) n
      = dot (fun k => (m ((c : Thread nD τ).loc main_arg0) : Vec Ideal S4x4096x8192 .bf16) (ix3 b s k))
          (fun k => (m ((c : Thread nD τ).loc main_arg1) : Vec Ideal S8192 .f32) (ix1 k))
          (fun k => (m ((c : Thread nD τ).loc main_arg2) : Vec Ideal S8192x12288 .fp8e4m3) (ix2 k n))
        * (m ((c : Thread nD τ).loc main_arg3) : Vec Ideal S12288 .f32) (ix1 n) := by
  rw [V3_codes, V3_weights, V3_wscale]
  unfold weighted dot
  rw [wscale_cast]
  refine congrArg (fun t : EReal => t * _) (Finset.sum_congr rfl fun k _ => ?_)
  exact congrArg (fun t : EReal => t * _) (codes_at m ρ c b s k)

/-- A rotated array at a token, over any codes, weights, scales and tables. -/
theorem turnArr_ix (D : Vec Ideal S16384x8192 .fp8e4m3) (W : Vec Ideal S8192x12288 .fp8e4m3) (U : Vec Ideal S1x12288 .f32)
    (C S : Vec Ideal S16384x128 .f32) (o : Fin 3) (r : Fin 16384) (h : Fin 32) (l : Fin 128) :
    turnArr D W U C S o (ix3 r h l) = weighted D W U r (colOf o h l) * C (ix2 r l) + weighted D W U r (colOf o h (partner l)) * S (ix2 r l) := rfl

/-- An array that is not rotated. -/
theorem plainArr_ix (D : Vec Ideal S16384x8192 .fp8e4m3) (W : Vec Ideal S8192x12288 .fp8e4m3) (U : Vec Ideal S1x12288 .f32)
    (C : Vec Ideal S16384x128 .f32) (o : Fin 3) (r : Fin 16384) (h : Fin 32) (l : Fin 128) :
    plainArr D W U C o (ix3 r h l) = weighted D W U r (colOf o h l) * C (ix2 r l) := rfl

/-- A rotated projection is the one named. -/
theorem turned_result (c : Dev nD) (o : Fin 3) :
    shapeCast S4x4096x32x128 (turnArr (V3 m ρ c main_v3_0) (V3 m ρ c main_arg2) (V3 m ρ c main_v4) (V3 m ρ c main_v3_2) (V3 m ρ c main_v3_3) o)
        shapeCasts_S16384x32x128_S4x4096x32x128
      = rotatedRes (m ((c : Thread nD τ).loc main_arg0)) (m ((c : Thread nD τ).loc main_arg1)) (m ((c : Thread nD τ).loc main_arg2))
          (m ((c : Thread nD τ).loc main_arg3)) (m ((c : Thread nD τ).loc main_arg4)) o := by
  funext j
  obtain ⟨b, s, h, l, rfl⟩ : ∃ b s h l, j = ix4 b s h l := ⟨j 0, j 1, j 2, j 3, by funext i; fin_cases i <;> rfl⟩
  refine (heads_cast _ _).trans ?_
  refine (turnArr_ix _ _ _ _ _ o (rowOf b s) h l).trans ?_
  rw [weighted_at, weighted_at, V3_cos, V3_sin, cos_at, sin_at]
  exact rotated_eq _ _ (fun k n => (m ((c : Thread nD τ).loc main_arg2) : Vec Ideal S8192x12288 .fp8e4m3) (ix2 k n))
    (fun n => (m ((c : Thread nD τ).loc main_arg3) : Vec Ideal S12288 .f32) (ix1 n)) _ o h l

/-- The projection that is not rotated. -/
theorem plain_result (c : Dev nD) (o : Fin 3) :
    shapeCast S4x4096x32x128 (plainArr (V3 m ρ c main_v3_0) (V3 m ρ c main_arg2) (V3 m ρ c main_v4) (V3 m ρ c main_v5) o)
        shapeCasts_S16384x32x128_S4x4096x32x128
      = plainRes (m ((c : Thread nD τ).loc main_arg0)) (m ((c : Thread nD τ).loc main_arg1)) (m ((c : Thread nD τ).loc main_arg2))
          (m ((c : Thread nD τ).loc main_arg3)) o := by
  funext j
  obtain ⟨b, s, h, l, rfl⟩ : ∃ b s h l, j = ix4 b s h l := ⟨j 0, j 1, j 2, j 3, by funext i; fin_cases i <;> rfl⟩
  refine (heads_cast _ _).trans ?_
  refine (plainArr_ix _ _ _ _ o (rowOf b s) h l).trans ?_
  rw [weighted_at, V3_lanes, lanes_apply, V3_scale, scale_at]
  exact product_eq _ _ (fun k n => (m ((c : Thread nD τ).loc main_arg2) : Vec Ideal S8192x12288 .fp8e4m3) (ix2 k n))
    (fun n => (m ((c : Thread nD τ).loc main_arg3) : Vec Ideal S12288 .f32) (ix1 n)) _

/-- Result 1. -/
theorem result_q (c : Dev nD) : W7 m ρ c (Proc.devRef .tc main_v9)
    = rotatedRes (m ((c : Thread nD τ).loc main_arg0)) (m ((c : Thread nD τ).loc main_arg1)) (m ((c : Thread nD τ).loc main_arg2))
        (m ((c : Thread nD τ).loc main_arg3)) (m ((c : Thread nD τ).loc main_arg4)) 0 := by
  refine (W7_q m ρ c).trans ?_
  rw [W6_q]
  exact turned_result m ρ c 0

/-- Result 2. -/
theorem result_k (c : Dev nD) : W7 m ρ c (Proc.devRef .tc main_v10)
    = rotatedRes (m ((c : Thread nD τ).loc main_arg0)) (m ((c : Thread nD τ).loc main_arg1)) (m ((c : Thread nD τ).loc main_arg2))
        (m ((c : Thread nD τ).loc main_arg3)) (m ((c : Thread nD τ).loc main_arg4)) 1 := by
  refine (W7_k m ρ c).trans ?_
  rw [W6_k]
  exact turned_result m ρ c 1

/-- Result 3. -/
theorem result_v (c : Dev nD) : W7 m ρ c (Proc.devRef .tc main_v11)
    = plainRes (m ((c : Thread nD τ).loc main_arg0)) (m ((c : Thread nD τ).loc main_arg1)) (m ((c : Thread nD τ).loc main_arg2))
        (m ((c : Thread nD τ).loc main_arg3)) 2 := by
  refine (W7_v m ρ c).trans ?_
  rw [W6_v]
  exact plain_result m ρ c 2

/-- Result 4. -/
theorem result_codes (c : Dev nD) : W7 m ρ c (Proc.devRef .tc main_v12)
    = codesRes (m ((c : Thread nD τ).loc main_arg0)) (m ((c : Thread nD τ).loc main_arg1)) := by
  refine (W7_codes m ρ c).trans ?_
  rw [W6_codes, V3_codes]
  funext j
  exact (codes_cast _ j).trans (codes_at m ρ c (j 0) (j 1) (j 2))

/-- Result 5. -/
theorem result_scale (c : Dev nD) : W7 m ρ c (Proc.devRef .tc main_v13)
    = scaleRes (m ((c : Thread nD τ).loc main_arg0)) (m ((c : Thread nD τ).loc main_arg1)) := by
  refine (W7_scale m ρ c).trans ?_
  rw [W6_scale, V3_scale]
  funext j
  exact (scale_cast _ j).trans (scale_at m ρ c (j 0) (j 1) 0)

end Cert.KernelIdeal.Gen

end
-- ==== Proof.KernelRun.lean ====
/- The kernel's run: it ends with its five results holding the functions of the arguments that Proof/Spec.lean names, the
   arguments unchanged. -/
module

public import proofs.«01_k».proof.Proof.KernelResults

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rows

variable (m : (ℓ : Loc nD τ sig) → Buf (Elt Ideal) ℓ) (ρ : Dev nD → PrngReg)

-- the launch's configuration family is compared with this one's by unfolding plain definitions in types
set_option backward.isDefEq.respectTransparency.types false in
/-- The kernel's run: its five results hold the functions named, and the arguments are as they were. -/
theorem results : θ_run defs (onTc (τ := τ) (main (F := Ideal))) ⟨m, fun _ => 0, ρ⟩ (fun r => ∀ c : Dev nD,
      r.2.mem ((c.tc : Thread nD τ).loc main_v9) = rotatedRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0
      ∧ r.2.mem ((c.tc : Thread nD τ).loc main_v10) = rotatedRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 1
      ∧ r.2.mem ((c.tc : Thread nD τ).loc main_v11) = plainRes (m ((c.tc : Thread nD τ).loc main_arg0)) (m ((c.tc : Thread nD τ).loc main_arg1)) (m ((c.tc : Thread nD τ).loc main_arg2)) (m ((c.tc : Thread nD τ).loc main_arg3)) 2
      ∧ r.2.mem ((c.tc : Thread nD τ).loc main_v12) = codesRes (m ((c.tc : Thread nD τ).loc main_arg0)) (m ((c.tc : Thread nD τ).loc main_arg1))
      ∧ r.2.mem ((c.tc : Thread nD τ).loc main_v13) = scaleRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨(h c _ (mem_uc main_v9 (by decide))).trans (result_q m ρ c),
       (h c _ (mem_uc main_v10 (by decide))).trans (result_k m ρ c),
       (h c _ (mem_uc main_v11 (by decide))).trans (result_v m ρ c),
       (h c _ (mem_uc main_v12 (by decide))).trans (result_codes m ρ c),
       (h c _ (mem_uc main_v13 (by decide))).trans (result_scale m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Gen

end
-- ==== Proof.RefBlock.lean ====
/- What the reference computes, read at an index: each of its payloads as the row functions of Proof/Rows.lean and
   Proof/Results.lean. -/
module
public import proofs.«01_k».proof.Proof.Gen.ReferenceIdeal.Frame
public import proofs.«01_k».proof.Proof.Results
public import Idealize.ShloMosaic.Lib.Pipeline.ValueKit
public import Idealize.ShloMosaic.Lib.Pointwise
@[expose] public section
set_option maxRecDepth 16384
noncomputable section
namespace Cert.ReferenceIdeal.Gen
open Idealize.ShloMosaic Idealize.ShloMosaic.TcCoe Idealize.SL.Sem Cert.Rows
open Idealize.ShloMosaic.Pipeline (Dat)

variable (x : Vec Ideal S4x4096x8192 .bf16) (g : Vec Ideal S8192 .f32)

/-- The activations of token `s` of sequence `b`. -/
abbrev tokX (b : Fin 4) (s : Fin 4096) : Fin 8192 → EReal := fun k => x (ix3 b s k)
/-- The gain. -/
abbrev gainG : Fin 8192 → EReal := fun k => g (ix1 k)

/-- The normalised activations. -/
theorem pay5_apply (b : Fin 4) (s : Fin 4096) (k : Fin 8192) : k0_pay5 (F := Ideal) x g (ix3 b s k) = norm (tokX x b s) (gainG g) k := by
  pointwise [k0_pay5]
  unfold Rows.norm tokX gainG
  with_reducible rfl

/-- One entry of the exponent's arithmetic, from the row's largest magnitude; the constants' bits are kept variables. -/
theorem exponent_eq (m : FVec Ideal S4x4096x1 .f32) (c1 c2 c3 c4 c5 c6 c7 c8 : BitVec 32) (j : S4x4096x1.Idx) :
    select (cmpf .oeq m (broadcast S4x4096x1 (Scalar.ofBits (F := Ideal) .f32 c1))) (broadcast S4x4096x1 (Scalar.ofBits (F := Ideal) .f32 c2))
      (select (andi (cmpf .oge (mulf m (broadcast S4x4096x1 (Scalar.ofBits (F := Ideal) .f32 c3))) (broadcast S4x4096x1 (Scalar.ofBits (F := Ideal) .f32 c4)))
          (cmpf .ole (mulf m (broadcast S4x4096x1 (Scalar.ofBits (F := Ideal) .f32 c3))) (broadcast S4x4096x1 (Scalar.ofBits (F := Ideal) .f32 c5))))
        (addf (floor (divf (log (mulf m (broadcast S4x4096x1 (Scalar.ofBits (F := Ideal) .f32 c3)))) (log (broadcast S4x4096x1 (Scalar.ofBits (F := Ideal) .f32 c6)))))
          (broadcast S4x4096x1 (Scalar.ofBits (F := Ideal) .f32 c7)))
        (broadcast S4x4096x1 (Scalar.ofBits (F := Ideal) .f32 c8))) j
      = Scalar.select (Ideal.cmp .oeq (m j) (Ideal.ofBits .f32 c1)) (Ideal.ofBits .f32 c2)
          (Scalar.select (IntOp.andi (Ideal.cmp .oge (m j * Ideal.ofBits .f32 c3) (Ideal.ofBits .f32 c4)) (Ideal.cmp .ole (m j * Ideal.ofBits .f32 c3) (Ideal.ofBits .f32 c5)))
            (Ideal.liftRound Int.floor (Ideal.div (Ideal.log (m j * Ideal.ofBits .f32 c3)) (Ideal.log (Ideal.ofBits .f32 c6))) + Ideal.ofBits .f32 c7)
            (Ideal.ofBits .f32 c8)) := rfl

/-- The rows' largest magnitudes, as a column. -/
def amaxCol (h : FVec Ideal S4x4096x8192 .f32) : FVec Ideal S4x4096x1 .f32 :=
  shapeCast S4x4096x1 (multiReduction .maximumf [2] S4x4096 (absf h) 0xFF800000#32 reduces_S4x4096x8192_S4x4096 (.inl rfl) rfl)
    shapeCasts_S4x4096_S4x4096x1

/-- The exponent's payload in that form. -/
theorem pay6_eq : k0_pay6 (F := Ideal) x g =
   select (cmpf .oeq (amaxCol (k0_pay5 x g)) (broadcast S4x4096x1 (Scalar.ofBits (F := Ideal) .f32 0x00000000#32))) (broadcast S4x4096x1 (Scalar.ofBits (F := Ideal) .f32 0x00000000#32))
      (select (andi (cmpf .oge (mulf (amaxCol (k0_pay5 x g)) (broadcast S4x4096x1 (Scalar.ofBits (F := Ideal) .f32 0x3B124925#32))) (broadcast S4x4096x1 (Scalar.ofBits (F := Ideal) .f32 0x00800000#32)))
          (cmpf .ole (mulf (amaxCol (k0_pay5 x g)) (broadcast S4x4096x1 (Scalar.ofBits (F := Ideal) .f32 0x3B124925#32))) (broadcast S4x4096x1 (Scalar.ofBits (F := Ideal) .f32 0x7F7FFFFF#32))))
        (addf (floor (divf (log (mulf (amaxCol (k0_pay5 x g)) (broadcast S4x4096x1 (Scalar.ofBits (F := Ideal) .f32 0x3B124925#32)))) (log (broadcast S4x4096x1 (Scalar.ofBits (F := Ideal) .f32 0x40000000#32)))))
          (broadcast S4x4096x1 (Scalar.ofBits (F := Ideal) .f32 0x3F800000#32)))
        (broadcast S4x4096x1 (Scalar.ofBits (F := Ideal) .f32 0x00000000#32))) := by
  unfold k0_pay6
  generalize k0_pay5 (F := Ideal) x g = h
  rfl

/-- The rows' largest magnitudes. -/
theorem amaxCol_apply (b : Fin 4) (s : Fin 4096) (z : Fin 1) : amaxCol (k0_pay5 x g) (ix3 b s z) = amax (tokX x b s) (gainG g) := by
  pointwise [amaxCol, pay5_apply x g]
  unfold amax
  with_reducible rfl

/-- The exponent. -/
theorem pay6_apply (b : Fin 4) (s : Fin 4096) (z : Fin 1) : k0_pay6 (F := Ideal) x g (ix3 b s z)
    = expReal (amax (tokX x b s) (gainG g)) (ratio (tokX x b s) (gainG g)) := by
  rw [pay6_eq, exponent_eq, amaxCol_apply, Ideal.ofBits_zero_f32, Ideal.ofBits_one_f32]
  unfold expReal
  rw [← ratio, ← normal]
  by_cases h : amax (tokX x b s) (gainG g) = 0 <;> simp [h, Ideal.cmp, Scalar.select]

/-- Two to the power of a vector, at an index. -/
theorem exp2_at (v : FVec Ideal S4x4096x1 .f32) (j : S4x4096x1.Idx) : exp2 v j = Ideal.exp2 (v j) := rfl

/-- The scale. -/
theorem pay7_apply (b : Fin 4) (s : Fin 4096) (z : Fin 1) : k0_pay7 (F := Ideal) x g (ix3 b s z) = scale (tokX x b s) (gainG g) := by
  rw [scale, ← pay6_apply x g b s z]
  exact exp2_at _ _

/-- Two to the power a constant less a vector, at an index. -/
theorem exp2_sub_const (v : FVec Ideal S4x4096x1 .f32) (c : BitVec 32) (j : S4x4096x1.Idx) :
    exp2 (subf (broadcast S4x4096x1 (Scalar.ofBits (F := Ideal) .f32 c)) v) j = Ideal.exp2 (Ideal.ofBits .f32 c - v j) := rfl

/-- One over the scale. -/
theorem pay8_apply (b : Fin 4) (s : Fin 4096) (z : Fin 1) : k0_pay8 (F := Ideal) x g (ix3 b s z) = inverse (tokX x b s) (gainG g) := by
  rw [inverse, ← pay6_apply x g b s z, ← Ideal.ofBits_zero_f32]
  unfold k0_pay8
  exact exp2_sub_const _ _ _

/-- The codes' payload, its operations spelt out. -/
theorem pay9_eq (h : FVec Ideal S4x4096x8192 .f32) (i : FVec Ideal S4x4096x1 .f32) : k0_pay9 (F := Ideal) h i =
   truncf .fp8e4m3 (minimumf (broadcast S4x4096x8192 (Scalar.ofBits (F := Ideal) .f32 0x43E00000#32))
     (maximumf (broadcast S4x4096x8192 (Scalar.ofBits (F := Ideal) .f32 0xC3E00000#32))
       (mulf h (broadcastTo S4x4096x8192 i broadcasts_S4x4096x1_S4x4096x8192)))) bitsLt_fp8e4m3_f32 := rfl

/-- A clamped array, at an index. -/
theorem clamp_const (v : FVec Ideal S4x4096x8192 .f32) (b b' : BitVec 32) (j : S4x4096x8192.Idx) :
    truncf .fp8e4m3 (minimumf (broadcast S4x4096x8192 (Scalar.ofBits (F := Ideal) .f32 b))
        (maximumf (broadcast S4x4096x8192 (Scalar.ofBits (F := Ideal) .f32 b')) v)) bitsLt_fp8e4m3_f32 j
      = min (Ideal.ofBits .f32 b) (max (Ideal.ofBits .f32 b') (v j)) := rfl

/-- An array times a column, at an index. -/
theorem mulf_col (h : FVec Ideal S4x4096x8192 .f32) (i : FVec Ideal S4x4096x1 .f32) (b : Fin 4) (s : Fin 4096) (k : Fin 8192) :
    mulf h (broadcastTo S4x4096x8192 i broadcasts_S4x4096x1_S4x4096x8192) (ix3 b s k) = h (ix3 b s k) * i (ix3 b s 0) := by
  pointwise []

/-- The codes. -/
theorem pay9_apply (b : Fin 4) (s : Fin 4096) (k : Fin 8192) :
    k0_pay9 (F := Ideal) (k0_pay5 x g) (k0_pay8 x g) (ix3 b s k) = code (tokX x b s) (gainG g) k := by
  rw [pay9_eq, code, ← pay8_apply x g b s 0, ← pay5_apply x g b s k, ← mulf_col]
  exact clamp_const _ _ _ _

/-- The scale's array. -/
theorem pay4_apply (v : FVec Ideal S4x4096x1 .f32) (b : Fin 4) (s : Fin 4096) : k0_pay4 (F := Ideal) v (ix2 b s) = v (ix3 b s 0) := by
  pointwise [k0_pay4]

/-- The products: a row's codes against a column of weights, times the row's scale, times the weight's scale. -/
theorem pay10_apply (h : FVec Ideal S4x4096x8192 .f32) (e i : FVec Ideal S4x4096x1 .f32) (w : Vec Ideal S8192x12288 .fp8e4m3) (u : Vec Ideal S12288 .f32)
    (b : Fin 4) (s : Fin 4096) (n : Fin 12288) :
    k0_pay10 (F := Ideal) h e i w u (ix3 b s n) = (∑ k : Fin 8192, k0_pay9 (F := Ideal) h i (ix3 b s k) * w (ix2 k n)) * e (ix3 b s 0) * u (ix1 n) := by
  unfold k0_pay10
  generalize k0_pay9 (F := Ideal) h i = v
  pointwise []

/-- The products, as the function of a token. -/
theorem product_apply (w : Vec Ideal S8192x12288 .fp8e4m3) (u : Vec Ideal S12288 .f32) (b : Fin 4) (s : Fin 4096) (n : Fin 12288) :
    k0_pay10 (F := Ideal) (k0_pay5 x g) (k0_pay7 x g) (k0_pay8 x g) w u (ix3 b s n)
      = product (tokX x b s) (gainG g) (fun k n => w (ix2 k n)) (fun n => u (ix1 n)) n := by
  rw [pay10_apply, pay7_apply]
  unfold product dot
  simp only [pay9_apply]

/-- The angles. -/
theorem pay14_apply (p : Vec Ideal S4x4096 .i32) (b : Fin 4) (s : Fin 4096) (l : Fin 64) :
    k0_pay14 (F := Ideal) p (ix3 b s l) = angle (p (ix2 b s)) l.val := by
  pointwise [k0_pay14]
  have e : ∀ b : BitVec 32, FloatOps.sitofp (F := Ideal) .f32 b = ((b.toInt : ℝ) : EReal) := fun _ => rfl
  rw [e, e]
  unfold angle
  with_reducible rfl

/-- The cosines. -/
theorem pay15_apply (p : Vec Ideal S4x4096 .i32) (b : Fin 4) (s : Fin 4096) (z : Fin 1) (l : Fin 64) :
    k0_pay15 (F := Ideal) p (ix4 b s z l) = Ideal.cos (angle (p (ix2 b s)) l.val) := by
  pointwise [k0_pay15, pay14_apply]

/-- The sines. -/
theorem pay16_apply (p : Vec Ideal S4x4096 .i32) (b : Fin 4) (s : Fin 4096) (z : Fin 1) (l : Fin 64) :
    k0_pay16 (F := Ideal) p (ix4 b s z l) = Ideal.sin (angle (p (ix2 b s)) l.val) := by
  pointwise [k0_pay16, pay14_apply]

/-- The heads of the first projection. -/
theorem pay11_apply (h : FVec Ideal S4x4096x8192 .f32) (e i : FVec Ideal S4x4096x1 .f32) (w : Vec Ideal S8192x12288 .fp8e4m3)
    (u : Vec Ideal S12288 .f32) (b : Fin 4) (s : Fin 4096) (n : Fin 32) (l : Fin 128) :
    k0_pay11 (F := Ideal) h e i w u (ix4 b s n l) = k0_pay10 (F := Ideal) h e i w u (ix3 b s (colOf 0 n l)) := by
  unfold k0_pay11
  generalize k0_pay10 (F := Ideal) h e i w u = y
  pointwise [colOf]
  blk_point []

/-- The heads of the second. -/
theorem pay12_apply (h : FVec Ideal S4x4096x8192 .f32) (e i : FVec Ideal S4x4096x1 .f32) (w : Vec Ideal S8192x12288 .fp8e4m3)
    (u : Vec Ideal S12288 .f32) (b : Fin 4) (s : Fin 4096) (n : Fin 32) (l : Fin 128) :
    k0_pay12 (F := Ideal) h e i w u (ix4 b s n l) = k0_pay10 (F := Ideal) h e i w u (ix3 b s (colOf 1 n l)) := by
  unfold k0_pay12
  generalize k0_pay10 (F := Ideal) h e i w u = y
  pointwise [colOf]
  blk_point []

/-- The heads of the third. -/
theorem pay13_apply (h : FVec Ideal S4x4096x8192 .f32) (e i : FVec Ideal S4x4096x1 .f32) (w : Vec Ideal S8192x12288 .fp8e4m3)
    (u : Vec Ideal S12288 .f32) (b : Fin 4) (s : Fin 4096) (n : Fin 32) (l : Fin 128) :
    k0_pay13 (F := Ideal) h e i w u (ix4 b s n l) = k0_pay10 (F := Ideal) h e i w u (ix3 b s (colOf 2 n l)) := by
  unfold k0_pay13
  generalize k0_pay10 (F := Ideal) h e i w u = y
  pointwise [colOf]
  blk_point []

/-- A rotated array at an index. -/
def turned (q : FVec Ideal S4x4096x32x128 .f32) (C S : FVec Ideal S4x4096x1x64 .f32) (b : Fin 4) (s : Fin 4096) (n : Fin 32)
    (l : Fin 128) : EReal :=
  if l.val < 64 then
    q (ix4 b s n l) * C (ix4 b s 0 ⟨l.val % 64, by omega⟩) - q (ix4 b s n (partner l)) * S (ix4 b s 0 ⟨l.val % 64, by omega⟩)
  else
    q (ix4 b s n l) * C (ix4 b s 0 ⟨l.val % 64, by omega⟩) + q (ix4 b s n (partner l)) * S (ix4 b s 0 ⟨l.val % 64, by omega⟩)

/-- The second projection's rotation. -/
theorem pay2_apply (q : FVec Ideal S4x4096x32x128 .f32) (C S : FVec Ideal S4x4096x1x64 .f32) (b : Fin 4) (s : Fin 4096) (n : Fin 32)
    (l : Fin 128) : k0_pay2 (F := Ideal) q C S (ix4 b s n l) = turned q C S b s n l := by
  pointwise [k0_pay2, turned, partner]
  split_ifs <;> blk_point []

/-- The first projection's rotation is the same. -/
theorem pay1_eq (h : FVec Ideal S4x4096x8192 .f32) (e i : FVec Ideal S4x4096x1 .f32) (w : Vec Ideal S8192x12288 .fp8e4m3)
    (u : Vec Ideal S12288 .f32) (p : Vec Ideal S4x4096 .i32) :
    k0_pay1 (F := Ideal) (k0_pay15 p) (k0_pay16 p) (k0_pay17 h e i w u) (k0_pay18 h e i w u) (k0_pay19 h e i w u p)
      = k0_pay2 (F := Ideal) (k0_pay11 h e i w u) (k0_pay15 p) (k0_pay16 p) := by
  unfold k0_pay1 k0_pay2 k0_pay19 k0_pay17 k0_pay18
  generalize k0_pay11 (F := Ideal) h e i w u = q
  generalize k0_pay15 (F := Ideal) p = C
  generalize k0_pay16 (F := Ideal) p = S
  rfl

/-- A rotated projection, as the function of a token. -/
theorem turned_eq (w : Vec Ideal S8192x12288 .fp8e4m3) (u : Vec Ideal S12288 .f32) (p : Vec Ideal S4x4096 .i32)
    (q : FVec Ideal S4x4096x32x128 .f32) (o : Fin 3) (b : Fin 4) (s : Fin 4096) (n : Fin 32) (l : Fin 128)
    (hq : ∀ l, q (ix4 b s n l) = product (tokX x b s) (gainG g) (fun k n => w (ix2 k n)) (fun n => u (ix1 n)) (colOf o n l)) :
    turned q (k0_pay15 p) (k0_pay16 p) b s n l
      = rotated (tokX x b s) (gainG g) (fun k n => w (ix2 k n)) (fun n => u (ix1 n)) (p (ix2 b s)) o n l := by
  unfold turned rotated
  rw [hq, hq, pay15_apply, pay16_apply]

end Cert.ReferenceIdeal.Gen
-- ==== Proof.RefResults.lean ====
/- The reference's five results as the functions of the arguments that Proof/Spec.lean names. -/
module

public import proofs.«01_k».proof.Proof.RefBlock
public import proofs.«01_k».proof.Proof.Spec
public import Idealize.ShloMosaic.Lib.Claim

@[expose] public section

set_option maxRecDepth 16384

noncomputable section

namespace Cert.ReferenceIdeal.Gen

open Idealize.ShloMosaic Idealize.ShloMosaic.TcCoe Idealize.SL.Sem Cert.Rows
open Idealize.ShloMosaic.Pipeline (Dat)

section
variable (x : Vec Ideal S4x4096x8192 .bf16) (g : Vec Ideal S8192 .f32) (w : Vec Ideal S8192x12288 .fp8e4m3)
  (u : Vec Ideal S12288 .f32) (p : Vec Ideal S4x4096 .i32)

/-- The first result's contents are the rotated first projection. -/
theorem out5_eq : out0_5 x g w u p = rotatedRes x g w u p 0 := by
  funext j
  obtain ⟨b, s, n, l, rfl⟩ : ∃ b s n l, j = ix4 b s n l := ⟨j 0, j 1, j 2, j 3, by funext i; fin_cases i <;> rfl⟩
  unfold out0_5 k0_pay24 k0_pay23 k0_pay22 k0_pay21 k0_pay20
  frame_out
  rw [pay1_eq, pay2_apply]
  exact turned_eq x g w u p _ 0 b s n l fun l => by rw [pay11_apply, product_apply]

/-- The second's are the rotated second projection. -/
theorem out6_eq : out0_6 x g w u p = rotatedRes x g w u p 1 := by
  funext j
  obtain ⟨b, s, n, l, rfl⟩ : ∃ b s n l, j = ix4 b s n l := ⟨j 0, j 1, j 2, j 3, by funext i; fin_cases i <;> rfl⟩
  unfold out0_6 k0_pay24 k0_pay23 k0_pay22 k0_pay21 k0_pay20
  frame_out
  rw [pay2_apply]
  exact turned_eq x g w u p _ 1 b s n l fun l => by rw [pay12_apply, product_apply]

/-- The third's are the third projection. -/
theorem out7_eq : out0_7 x g w u p = plainRes x g w u 2 := by
  funext j
  obtain ⟨b, s, n, l, rfl⟩ : ∃ b s n l, j = ix4 b s n l := ⟨j 0, j 1, j 2, j 3, by funext i; fin_cases i <;> rfl⟩
  unfold out0_7 k0_pay22 k0_pay21 k0_pay20
  frame_out
  unfold k0_pay3
  refine Eq.trans ?_ (product_apply x g w u b s (colOf 2 n l))
  rw [← pay13_apply]
  rfl

/-- The fourth's are the codes. -/
theorem out8_eq : out0_8 x g w u p = codesRes x g := by
  funext j
  obtain ⟨b, s, k, rfl⟩ : ∃ b s k, j = ix3 b s k := ⟨j 0, j 1, j 2, by funext i; fin_cases i <;> rfl⟩
  unfold out0_8 k0_pay22 k0_pay20
  frame_out
  exact pay9_apply x g b s k

/-- The fifth's are the scales. -/
theorem out9_eq : out0_9 x g w u p = scaleRes x g := by
  funext j
  obtain ⟨b, s, rfl⟩ : ∃ b s, j = ix2 b s := ⟨j 0, j 1, by funext i; fin_cases i <;> rfl⟩
  unfold out0_9 k0_pay21
  frame_out
  rw [pay4_apply]
  exact pay7_apply x g b s 0
end

variable (m : (ℓ : Loc nD τ sig) → Buf (Elt Ideal) ℓ) (ρ : Dev nD → PrngReg)

/-- Every window is its whole array. -/
theorem idx0 : ∀ t : Fin cfg0.N, win0_0.index t = ![0, 0, 0] ∧ win0_1.index t = ![0] ∧ win0_2.index t = ![0, 0] ∧ win0_3.index t = ![0]
    ∧ win0_4.index t = ![0, 0] ∧ win0_5.index t = ![0, 0, 0, 0] ∧ win0_6.index t = ![0, 0, 0, 0] ∧ win0_7.index t = ![0, 0, 0, 0]
    ∧ win0_8.index t = ![0, 0, 0] ∧ win0_9.index t = ![0, 0] := by
  decide +kernel

/-- The one block of each argument is the argument. -/
theorem blk0 (c : Dev nD) : (iblk m c 0 t0_0 : Vec Ideal S4x4096x8192 .bf16) = m ((c : Thread nD τ).loc main_arg0) := by
  funext j
  blk_point [iblk, V, idx0 t0_0]

/-- The gain. -/
theorem blk1 (c : Dev nD) : (iblk m c 1 t0_0 : Vec Ideal S8192 .f32) = m ((c : Thread nD τ).loc main_arg1) := by
  funext j
  blk_point [iblk, V, idx0 t0_0]

/-- The weights. -/
theorem blk2 (c : Dev nD) : (iblk m c 2 t0_0 : Vec Ideal S8192x12288 .fp8e4m3) = m ((c : Thread nD τ).loc main_arg2) := by
  funext j
  blk_point [iblk, V, idx0 t0_0]

/-- The weights' scales. -/
theorem blk3 (c : Dev nD) : (iblk m c 3 t0_0 : Vec Ideal S12288 .f32) = m ((c : Thread nD τ).loc main_arg3) := by
  funext j
  blk_point [iblk, V, idx0 t0_0]

/-- The positions. -/
theorem blk4 (c : Dev nD) : (iblk m c 4 t0_0 : Vec Ideal S4x4096 .i32) = m ((c : Thread nD τ).loc main_arg4) := by
  funext j
  blk_point [iblk, V, idx0 t0_0]

end Cert.ReferenceIdeal.Gen

end
-- ==== Proof.RefRun.lean ====
/- The reference's run: it ends with its five results holding the functions of the arguments that Proof/Spec.lean names,
   the arguments unchanged. -/
module

public import proofs.«01_k».proof.Proof.RefResults
public import proofs.«01_k».proof.Proof.Spec
public import Idealize.ShloMosaic.Lib.Claim

@[expose] public section

set_option maxRecDepth 16384

noncomputable section

namespace Cert.ReferenceIdeal.Gen

open Idealize.ShloMosaic Idealize.ShloMosaic.TcCoe Idealize.SL.Sem Cert.Rows
open Idealize.ShloMosaic.Pipeline (Dat)

variable (m : (ℓ : Loc nD τ sig) → Buf (Elt Ideal) ℓ) (ρ : Dev nD → PrngReg)

/-- The first result's array. -/
theorem res5 (c : Dev nD) : (dats m 0 c).arrAt 5 cfg0.N
    = rotatedRes (m ((c : Thread nD τ).loc main_arg0)) (m ((c : Thread nD τ).loc main_arg1)) (m ((c : Thread nD τ).loc main_arg2)) (m ((c : Thread nD τ).loc main_arg3)) (m ((c : Thread nD τ).loc main_arg4)) 0 := by
  refine Eq.trans ?_ (out5_eq (m ((c : Thread nD τ).loc main_arg0)) (m ((c : Thread nD τ).loc main_arg1))
    (m ((c : Thread nD τ).loc main_arg2)) (m ((c : Thread nD τ).loc main_arg3)) (m ((c : Thread nD τ).loc main_arg4)))
  rw [← blk0 m c, ← blk1 m c, ← blk2 m c, ← blk3 m c, ← blk4 m c, ← after0_5]
  generalize hA : (dats m 0 c).after 5 t0_0 = A
  refine (dats m 0 c).arrAt_eq_of_after_last 5 t0_0 (by decide +kernel) _ fun j => ?_
  rw [hA]
  blk_point [idx0 t0_0]

/-- The second result's array. -/
theorem res6 (c : Dev nD) : (dats m 0 c).arrAt 6 cfg0.N
    = rotatedRes (m ((c : Thread nD τ).loc main_arg0)) (m ((c : Thread nD τ).loc main_arg1)) (m ((c : Thread nD τ).loc main_arg2)) (m ((c : Thread nD τ).loc main_arg3)) (m ((c : Thread nD τ).loc main_arg4)) 1 := by
  refine Eq.trans ?_ (out6_eq (m ((c : Thread nD τ).loc main_arg0)) (m ((c : Thread nD τ).loc main_arg1))
    (m ((c : Thread nD τ).loc main_arg2)) (m ((c : Thread nD τ).loc main_arg3)) (m ((c : Thread nD τ).loc main_arg4)))
  rw [← blk0 m c, ← blk1 m c, ← blk2 m c, ← blk3 m c, ← blk4 m c, ← after0_6]
  generalize hA : (dats m 0 c).after 6 t0_0 = A
  refine (dats m 0 c).arrAt_eq_of_after_last 6 t0_0 (by decide +kernel) _ fun j => ?_
  rw [hA]
  blk_point [idx0 t0_0]

/-- The third result's array. -/
theorem res7 (c : Dev nD) : (dats m 0 c).arrAt 7 cfg0.N
    = plainRes (m ((c : Thread nD τ).loc main_arg0)) (m ((c : Thread nD τ).loc main_arg1)) (m ((c : Thread nD τ).loc main_arg2)) (m ((c : Thread nD τ).loc main_arg3)) 2 := by
  refine Eq.trans ?_ (out7_eq (m ((c : Thread nD τ).loc main_arg0)) (m ((c : Thread nD τ).loc main_arg1))
    (m ((c : Thread nD τ).loc main_arg2)) (m ((c : Thread nD τ).loc main_arg3)) (m ((c : Thread nD τ).loc main_arg4)))
  rw [← blk0 m c, ← blk1 m c, ← blk2 m c, ← blk3 m c, ← blk4 m c, ← after0_7]
  generalize hA : (dats m 0 c).after 7 t0_0 = A
  refine (dats m 0 c).arrAt_eq_of_after_last 7 t0_0 (by decide +kernel) _ fun j => ?_
  rw [hA]
  blk_point [idx0 t0_0]

/-- The fourth result's array. -/
theorem res8 (c : Dev nD) : (dats m 0 c).arrAt 8 cfg0.N
    = codesRes (m ((c : Thread nD τ).loc main_arg0)) (m ((c : Thread nD τ).loc main_arg1))  := by
  refine Eq.trans ?_ (out8_eq (m ((c : Thread nD τ).loc main_arg0)) (m ((c : Thread nD τ).loc main_arg1))
    (m ((c : Thread nD τ).loc main_arg2)) (m ((c : Thread nD τ).loc main_arg3)) (m ((c : Thread nD τ).loc main_arg4)))
  rw [← blk0 m c, ← blk1 m c, ← blk2 m c, ← blk3 m c, ← blk4 m c, ← after0_8]
  generalize hA : (dats m 0 c).after 8 t0_0 = A
  refine (dats m 0 c).arrAt_eq_of_after_last 8 t0_0 (by decide +kernel) _ fun j => ?_
  rw [hA]
  blk_point [idx0 t0_0]

/-- The fifth result's array. -/
theorem res9 (c : Dev nD) : (dats m 0 c).arrAt 9 cfg0.N
    = scaleRes (m ((c : Thread nD τ).loc main_arg0)) (m ((c : Thread nD τ).loc main_arg1))  := by
  refine Eq.trans ?_ (out9_eq (m ((c : Thread nD τ).loc main_arg0)) (m ((c : Thread nD τ).loc main_arg1))
    (m ((c : Thread nD τ).loc main_arg2)) (m ((c : Thread nD τ).loc main_arg3)) (m ((c : Thread nD τ).loc main_arg4)))
  rw [← blk0 m c, ← blk1 m c, ← blk2 m c, ← blk3 m c, ← blk4 m c, ← after0_9]
  generalize hA : (dats m 0 c).after 9 t0_0 = A
  refine (dats m 0 c).arrAt_eq_of_after_last 9 t0_0 (by decide +kernel) _ fun j => ?_
  rw [hA]
  blk_point [idx0 t0_0]

/-- The reference's run: its five results hold the functions named, and the arguments are as they were. -/
theorem results : θ_run defs (onTc (τ := τ) (main (F := Ideal))) ⟨m, fun _ => 0, ρ⟩ (fun r => ∀ c : Dev nD,
      r.2.mem ((c.tc : Thread nD τ).loc main_v0_0) = rotatedRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 0
      ∧ r.2.mem ((c.tc : Thread nD τ).loc main_v0_1) = rotatedRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) 1
      ∧ r.2.mem ((c.tc : Thread nD τ).loc main_v0_2) = plainRes (m ((c.tc : Thread nD τ).loc main_arg0)) (m ((c.tc : Thread nD τ).loc main_arg1)) (m ((c.tc : Thread nD τ).loc main_arg2)) (m ((c.tc : Thread nD τ).loc main_arg3)) 2
      ∧ r.2.mem ((c.tc : Thread nD τ).loc main_v0_3) = codesRes (m ((c.tc : Thread nD τ).loc main_arg0)) (m ((c.tc : Thread nD τ).loc main_arg1))
      ∧ r.2.mem ((c.tc : Thread nD τ).loc main_v0_4) = scaleRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1 5).trans (res5 m c), ((h c).1 6).trans (res6 m c), ((h c).1 7).trans (res7 m c), ((h c).1 8).trans (res8 m c),
      ((h c).1 9).trans (res9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.RefRun
public import Idealize.ShloMosaic.Lib.Bf16Pair
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The four pack sites are what the rule says: a pack is the two roundings side by side, a row entry the
    interleaving of the two halves. -/
theorem preserves : preserves_Kernel_KernelIdeal :=
  ⟨IdealRules.bf16_pair.packStatement Cert.KernelIdeal.S1024x128,
    IdealRules.bf16_pair.statement Cert.KernelIdeal.S1024x2x128 Cert.KernelIdeal.S1024x1x128⟩

/-- From equal arguments both programs end with equal results: each of the five is the function of the arguments that
    Proof/Spec.lean names. -/
theorem algebraic : algebraic_KernelIdeal_ReferenceIdeal := by
  intro m g m' g' _ hagree
  refine ⟨_, _, _, _, _, Cert.KernelIdeal.Gen.results m g, ?_⟩
  refine (θ_run _ _ _).mono (fun r h c => ?_) (Cert.ReferenceIdeal.Gen.results m' g')
  obtain ⟨h0, h1, h2, h3, h4, h5, h6, h7, h8, h9⟩ := h c
  obtain ⟨a0, a1, a2, a3, a4⟩ := hagree c
  rw [a0, a1, a2, a3, a4] at h0 h1
  rw [a0, a1, a2, a3] at h2
  rw [a0, a1] at h3 h4
  exact ⟨h0, h1, h2, h3, h4, h5, h6, h7, h8, h9⟩

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, preserves, algebraic⟩

end Cert.Proof

end
